-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "two_gamma_log2e" .f32 0x3FD52EDA#32 (((649887063340739 / 562949953421312) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2x128 : Shape := ⟨3, ![4096, 2, 128]⟩
abbrev S4096x50x2x128 : Shape := ⟨4, ![4096, 50, 2, 128]⟩
abbrev S4096 : Shape := ⟨1, ![4096]⟩
abbrev S4096x50 : Shape := ⟨2, ![4096, 50]⟩
abbrev S4096x1 : Shape := ⟨2, ![4096, 1]⟩
abbrev S1x1 : Shape := ⟨2, ![1, 1]⟩
abbrev S128x2x128 : Shape := ⟨3, ![128, 2, 128]⟩
abbrev S128x1 : Shape := ⟨2, ![128, 1]⟩
abbrev S128x50 : Shape := ⟨2, ![128, 50]⟩
abbrev S2x128x50x256 : Shape := ⟨4, ![2, 128, 50, 256]⟩
abbrev S1x128 : Shape := ⟨2, ![1, 128]⟩
abbrev S2x4 : Shape := ⟨2, ![2, 4]⟩
abbrev S_ : Shape := ⟨0, ![]⟩
abbrev S1x32x50x256 : Shape := ⟨4, ![1, 32, 50, 256]⟩
abbrev S32x50x256 : Shape := ⟨3, ![32, 50, 256]⟩
abbrev S4096x50x256 : Shape := ⟨3, ![4096, 50, 256]⟩
abbrev S128x1x128 : Shape := ⟨3, ![128, 1, 128]⟩
abbrev S128x128 : Shape := ⟨2, ![128, 128]⟩
abbrev S1x128x50x256 : Shape := ⟨4, ![1, 128, 50, 256]⟩
abbrev S128x50x256 : Shape := ⟨3, ![128, 50, 256]⟩
abbrev S128x50x128 : Shape := ⟨3, ![128, 50, 128]⟩
abbrev S128x50x1 : Shape := ⟨3, ![128, 50, 1]⟩
abbrev S64x2x50x128 : Shape := ⟨4, ![64, 2, 50, 128]⟩
abbrev S64x1x50x128 : Shape := ⟨4, ![64, 1, 50, 128]⟩
abbrev S64x50x128 : Shape := ⟨3, ![64, 50, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x2x128, .f32⟩
  | .hbm, ⟨1, _⟩ => ⟨S4096x50x2x128, .f32⟩
  | .hbm, ⟨2, _⟩ => ⟨S4096, .i32⟩
  | .hbm, ⟨3, _⟩ => ⟨S4096x50, .i32⟩
  | .hbm, ⟨4, _⟩ => ⟨S4096x1, .i32⟩
  | .hbm, ⟨5, _⟩ => ⟨S1x1, .f32⟩
  | .hbm, ⟨6, _⟩ => ⟨S_, .f32⟩
  | .local _ .vmem, ⟨0, _⟩ => ⟨S128x2x128, .f32⟩
  | .local _ .vmem, ⟨1, _⟩ => ⟨S128x2x128, .f32⟩
  | .local _ .vmem, ⟨2, _⟩ => ⟨S128x1, .i32⟩
  | .local _ .vmem, ⟨3, _⟩ => ⟨S128x1, .i32⟩
  | .local _ .vmem, ⟨4, _⟩ => ⟨S128x50, .i32⟩
  | .local _ .vmem, ⟨5, _⟩ => ⟨S128x50, .i32⟩
  | .local _ .vmem, ⟨6, _⟩ => ⟨S1x1, .f32⟩
  | .local _ .vmem, ⟨7, _⟩ => ⟨S2x128x50x256, .f32⟩
  | .local _ .vmem, ⟨8, _⟩ => ⟨S1x128, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c32_i32 : BitVec 32 := 32#32
  let v7 : BitVec 1 := Scalar.cmpi .slt v6 c32_i32
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_77 : BitVec 32 := 0#32
  ![v2.toNat, 0]
def k0_off2 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_78 : BitVec 32 := 0#32
  let c0_i32_79 : BitVec 32 := 0#32
  let c0_i32_80 : BitVec 32 := 0#32
  ![v2.toNat, 0, 0, 0]
def k0_off3 (i : grid0.Coords) (c0_i32_70 : BitVec 32) : Fin 3 → Nat :=
  let arg0 : BitVec 32 := BitVec.ofNat 32 (i 0).val
  let c1_i32_68 : BitVec 32 := 1#32
  let v151 : BitVec 32 := Scalar.addi arg0 c1_i32_68
  let c128_i32_69 : BitVec 32 := 128#32
  let v152 : BitVec 32 := Scalar.muli v151 c128_i32_69
  let v153 : BitVec 32 := Scalar.addi v152 c0_i32_70
  let c0_i32_81 : BitVec 32 := 0#32
  let c0_i32_82 : BitVec 32 := 0#32
  ![v153.toNat, 0, 0]
def k0_off4 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_83 : BitVec 32 := 1#32
  ![v2.toNat, 1]
def k0_off5 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c32_i32_84 : BitVec 32 := 32#32
  let c0_i32_85 : BitVec 32 := 0#32
  let c0_i32_86 : BitVec 32 := 0#32
  ![v2.toNat, 32, 0, 0]
def k0_off6 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2_i32_89 : BitVec 32 := 2#32
  ![v2.toNat, 2]
def k0_off7 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c64_i32_90 : BitVec 32 := 64#32
  let c0_i32_91 : BitVec 32 := 0#32
  let c0_i32_92 : BitVec 32 := 0#32
  ![v2.toNat, 64, 0, 0]
def k0_off8 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c3_i32_95 : BitVec 32 := 3#32
  ![v2.toNat, 3]
def k0_off9 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c96_i32_96 : BitVec 32 := 96#32
  let c0_i32_97 : BitVec 32 := 0#32
  let c0_i32_98 : BitVec 32 := 0#32
  ![v2.toNat, 96, 0, 0]
def k0_off10 (i : grid0.Coords) : Fin 2 → Nat :=
  let arg0 : BitVec 32 := BitVec.ofNat 32 (i 0).val
  let c2_i32 : BitVec 32 := 2#32
  let v0 : BitVec 32 := Scalar.remsi arg0 c2_i32
  let c0_i32_9 : BitVec 32 := 0#32
  ![v0.toNat, 0]
def k0_off11 (i : grid0.Coords) : Fin 4 → Nat :=
  let arg0 : BitVec 32 := BitVec.ofNat 32 (i 0).val
  let c2_i32 : BitVec 32 := 2#32
  let v0 : BitVec 32 := Scalar.remsi arg0 c2_i32
  let c0_i32_10 : BitVec 32 := 0#32
  let c0_i32_11 : BitVec 32 := 0#32
  let c0_i32_12 : BitVec 32 := 0#32
  ![v0.toNat, 0, 0, 0]
def k0_off12 (i : grid0.Coords) (c0_i32_4 : BitVec 32) : Fin 3 → Nat :=
  let arg0 : BitVec 32 := BitVec.ofNat 32 (i 0).val
  let c128_i32 : BitVec 32 := 128#32
  let v10 : BitVec 32 := Scalar.muli arg0 c128_i32
  let v11 : BitVec 32 := Scalar.addi v10 c0_i32_4
  let c0_i32_13 : BitVec 32 := 0#32
  let c0_i32_14 : BitVec 32 := 0#32
  ![v11.toNat, 0, 0]
def k0_off13 (i : grid0.Coords) : Fin 2 → Nat :=
  let arg0 : BitVec 32 := BitVec.ofNat 32 (i 0).val
  let c2_i32 : BitVec 32 := 2#32
  let v0 : BitVec 32 := Scalar.remsi arg0 c2_i32
  let c1_i32_15 : BitVec 32 := 1#32
  ![v0.toNat, 1]
def k0_off14 (i : grid0.Coords) : Fin 4 → Nat :=
  let arg0 : BitVec 32 := BitVec.ofNat 32 (i 0).val
  let c2_i32 : BitVec 32 := 2#32
  let v0 : BitVec 32 := Scalar.remsi arg0 c2_i32
  let c32_i32_16 : BitVec 32 := 32#32
  let c0_i32_17 : BitVec 32 := 0#32
  let c0_i32_18 : BitVec 32 := 0#32
  ![v0.toNat, 32, 0, 0]
def k0_off15 (i : grid0.Coords) : Fin 2 → Nat :=
  let arg0 : BitVec 32 := BitVec.ofNat 32 (i 0).val
  let c2_i32 : BitVec 32 := 2#32
  let v0 : BitVec 32 := Scalar.remsi arg0 c2_i32
  let c2_i32_21 : BitVec 32 := 2#32
  ![v0.toNat, 2]
def k0_off16 (i : grid0.Coords) : Fin 4 → Nat :=
  let arg0 : BitVec 32 := BitVec.ofNat 32 (i 0).val
  let c2_i32 : BitVec 32 := 2#32
  let v0 : BitVec 32 := Scalar.remsi arg0 c2_i32
  let c64_i32_22 : BitVec 32 := 64#32
  let c0_i32_23 : BitVec 32 := 0#32
  let c0_i32_24 : BitVec 32 := 0#32
  ![v0.toNat, 64, 0, 0]
def k0_off17 (i : grid0.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k0_off18 (i : grid0.Coords) : Fin 4 → Nat :=
  let arg0 : BitVec 32 := BitVec.ofNat 32 (i 0).val
  let c2_i32 : BitVec 32 := 2#32
  let v0 : BitVec 32 := Scalar.remsi arg0 c2_i32
  let c96_i32_27 : BitVec 32 := 96#32
  let c0_i32_28 : BitVec 32 := 0#32
  let c0_i32_29 : BitVec 32 := 0#32
  ![v0.toNat, 96, 0, 0]
def k0_off19 (i : grid0.Coords) : Fin 4 → Nat :=
  let arg0 : BitVec 32 := BitVec.ofNat 32 (i 0).val
  let c2_i32 : BitVec 32 := 2#32
  let v0 : BitVec 32 := Scalar.remsi arg0 c2_i32
  let v54 : Index := Scalar.indexCast v0
  let c0_38 : Index := 0#32
  let c0_39 : Index := 0#32
  let c0_40 : Index := 0#32
  ![v54.toNat, 0, 0, 0]
def k0_cond4 (i : grid0.Coords) : BitVec 1 :=
  let arg0 : BitVec 32 := BitVec.ofNat 32 (i 0).val
  let c31_i32 : BitVec 32 := 31#32
  let v148 : BitVec 1 := Scalar.cmpi .eq arg0 c31_i32
  let v149 : BitVec 32 := Scalar.extui v148
  let c0_i32_67 : BitVec 32 := 0#32
  let v150 : BitVec 1 := Scalar.cmpi .ne v149 c0_i32_67
  v150

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x50 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "log2e" => some (((Real.log 2)⁻¹ : ℝ) : EReal)
  | "two_gamma_log2e" => some (((649887063340739 / 562949953421312) * (Real.log 2)⁻¹ : ℝ) : EReal)
  | _ => none
-- ==== ReferenceIdeal.lean ====
abbrev S4096x2x128 : Shape := ⟨3, ![4096, 2, 128]⟩
abbrev S4096x50x2x128 : Shape := ⟨4, ![4096, 50, 2, 128]⟩
abbrev S4096 : Shape := ⟨1, ![4096]⟩
abbrev S4096x50 : Shape := ⟨2, ![4096, 50]⟩
abbrev S4096x1x128 : Shape := ⟨3, ![4096, 1, 128]⟩
abbrev S4096x128 : Shape := ⟨2, ![4096, 128]⟩
abbrev S4096x50x1x128 : Shape := ⟨4, ![4096, 50, 1, 128]⟩
abbrev S4096x50x128 : Shape := ⟨3, ![4096, 50, 128]⟩
abbrev S_ : Shape := ⟨0, ![]⟩
abbrev S4096x1 : Shape := ⟨2, ![4096, 1]⟩

abbrev nBuf : Space → Nat
  | .hbm => 145
  | .vmem => 0
  | .smem => 0
  | _ => 0

abbrev hbmTy0_0 (i : Nat) : BufTy := match i % 128 with
  | 0 => ⟨S4096x2x128, .f32⟩
  | 1 => ⟨S4096x50x2x128, .f32⟩
  | 2 => ⟨S4096, .i32⟩
  | 3 => ⟨S4096x50, .i32⟩
  | 4 => ⟨S4096x1x128, .f32⟩
  | 5 => ⟨S4096x128, .f32⟩
  | 6 => ⟨S4096x1x128, .f32⟩
  | 7 => ⟨S4096x1x128, .f32⟩
  | 8 => ⟨S4096x128, .f32⟩
  | 9 => ⟨S4096x1x128, .f32⟩
  | 10 => ⟨S4096x50x1x128, .f32⟩
  | 11 => ⟨S4096x50x128, .f32⟩
  | 12 => ⟨S4096x50x1x128, .f32⟩
  | 13 => ⟨S4096x50x128, .f32⟩
  | 14 => ⟨S_, .f32⟩
  | 15 => ⟨S4096x1x128, .f32⟩
  | 16 => ⟨S4096x1x128, .f32⟩
  | 17 => ⟨S_, .f32⟩
  | 18 => ⟨S4096x50x128, .f32⟩
  | 19 => ⟨S4096x50x128, .f32⟩
  | 20 => ⟨S4096x50x128, .f32⟩
  | 21 => ⟨S4096x50x128, .f32⟩
  | 22 => ⟨S4096x50x128, .f32⟩
  | 23 => ⟨S4096x50x128, .f32⟩
  | 24 => ⟨S4096x50x128, .i1⟩
  | 25 => ⟨S4096x50x128, .f32⟩
  | 26 => ⟨S4096x50x128, .f32⟩
  | 27 => ⟨S4096x50x128, .f32⟩
  | 28 => ⟨S4096x50x128, .f32⟩
  | 29 => ⟨S4096x50x128, .f32⟩
  | 30 => ⟨S4096x50x128, .f32⟩
  | 31 => ⟨S4096x50x128, .f32⟩
  | 32 => ⟨S4096x50x128, .f32⟩
  | 33 => ⟨S_, .f32⟩
  | 34 => ⟨S4096x50x128, .f32⟩
  | 35 => ⟨S4096x50x128, .f32⟩
  | 36 => ⟨S4096x1x128, .f32⟩
  | 37 => ⟨S_, .f32⟩
  | 38 => ⟨S4096x1x128, .f32⟩
  | 39 => ⟨S4096x1x128, .f32⟩
  | 40 => ⟨S4096x50x128, .f32⟩
  | 41 => ⟨S_, .f32⟩
  | 42 => ⟨S4096x50x128, .f32⟩
  | 43 => ⟨S4096x50x128, .f32⟩
  | 44 => ⟨S4096x50x128, .f32⟩
  | 45 => ⟨S4096x50x128, .f32⟩
  | 46 => ⟨S4096x50x128, .f32⟩
  | 47 => ⟨S4096x50x128, .f32⟩
  | 48 => ⟨S4096x50x128, .i1⟩
  | 49 => ⟨S4096x50x128, .f32⟩
  | 50 => ⟨S4096x50x128, .f32⟩
  | 51 => ⟨S4096x50x128, .f32⟩
  | 52 => ⟨S4096x50x128, .f32⟩
  | 53 => ⟨S4096x50x128, .f32⟩
  | 54 => ⟨S4096x50x128, .f32⟩
  | 55 => ⟨S4096x50x128, .f32⟩
  | 56 => ⟨S4096x50x128, .f32⟩
  | 57 => ⟨S_, .f32⟩
  | 58 => ⟨S4096x50x128, .f32⟩
  | 59 => ⟨S4096x50x128, .f32⟩
  | 60 => ⟨S4096x50x128, .f32⟩
  | 61 => ⟨S_, .f32⟩
  | 62 => ⟨S_, .f32⟩
  | 63 => ⟨S_, .f32⟩
  | 64 => ⟨S4096x50x128, .f32⟩
  | 65 => ⟨S4096x50x128, .f32⟩
  | 66 => ⟨S_, .f32⟩
  | 67 => ⟨S4096x50x128, .f32⟩
  | 68 => ⟨S4096x50x128, .f32⟩
  | 69 => ⟨S_, .f32⟩
  | 70 => ⟨S4096x50x128, .f32⟩
  | 71 => ⟨S4096x50x128, .f32⟩
  | 72 => ⟨S4096x50x128, .f32⟩
  | 73 => ⟨S4096x50x128, .f32⟩
  | 74 => ⟨S4096x50x128, .i1⟩
  | 75 => ⟨S4096x50x128, .f32⟩
  | 76 => ⟨S4096x50x128, .f32⟩
  | 77 => ⟨S4096x50x128, .f32⟩
  | 78 => ⟨S4096x50x128, .f32⟩
  | 79 => ⟨S4096x50x128, .f32⟩
  | 80 => ⟨S4096x50x128, .f32⟩
  | 81 => ⟨S4096x50x128, .f32⟩
  | 82 => ⟨S4096x50x128, .f32⟩
  | 83 => ⟨S_, .f32⟩
  | 84 => ⟨S4096x50x128, .f32⟩
  | 85 => ⟨S4096x50x128, .f32⟩
  | 86 => ⟨S_, .f32⟩
  | 87 => ⟨S4096x50x128, .f32⟩
  | 88 => ⟨S4096x50x128, .f32⟩
  | 89 => ⟨S4096x50x128, .f32⟩
  | 90 => ⟨S_, .f32⟩
  | 91 => ⟨S4096x50, .f32⟩
  | 92 => ⟨S4096x50x128, .f32⟩
  | 93 => ⟨S_, .f32⟩
  | 94 => ⟨S_, .f32⟩
  | 95 => ⟨S_, .f32⟩
  | 96 => ⟨S4096x50x128, .f32⟩
  | 97 => ⟨S4096x50x128, .f32⟩
  | 98 => ⟨S_, .f32⟩
  | 99 => ⟨S4096x50x128, .f32⟩
  | 100 => ⟨S4096x50x128, .f32⟩
  | 101 => ⟨S_, .f32⟩
  | 102 => ⟨S4096x50x128, .f32⟩
  | 103 => ⟨S4096x50x128, .f32⟩
  | 104 => ⟨S4096x50x128, .f32⟩
  | 105 => ⟨S4096x50x128, .f32⟩
  | 106 => ⟨S4096x50x128, .i1⟩
  | 107 => ⟨S4096x50x128, .f32⟩
  | 108 => ⟨S4096x50x128, .f32⟩
  | 109 => ⟨S4096x50x128, .f32⟩
  | 110 => ⟨S4096x50x128, .f32⟩
  | 111 => ⟨S4096x50x128, .f32⟩
  | 112 => ⟨S4096x50x128, .f32⟩
  | 113 => ⟨S4096x50x128, .f32⟩
  | 114 => ⟨S4096x50x128, .f32⟩
  | 115 => ⟨S_, .f32⟩
  | 116 => ⟨S4096x50x128, .f32⟩
  | 117 => ⟨S4096x50x128, .f32⟩
  | 118 => ⟨S_, .f32⟩
  | 119 => ⟨S4096x50x128, .f32⟩
  | 120 => ⟨S4096x50x128, .f32⟩
  | 121 => ⟨S4096x50x128, .f32⟩
  | 122 => ⟨S_, .f32⟩
  | 123 => ⟨S4096x50, .f32⟩
  | 124 => ⟨S4096x50, .f32⟩
  | 125 => ⟨S_, .i32⟩
  | 126 => ⟨S4096x50, .i32⟩
  | 127 => ⟨S4096x50, .i1⟩
  | _ => ⟨S4096x2x128, .f32⟩

abbrev hbmTy0_1 (i : Nat) : BufTy := match i % 128 with
  | 0 => ⟨S_, .i32⟩
  | 1 => ⟨S4096, .i32⟩
  | 2 => ⟨S4096, .i1⟩
  | 3 => ⟨S4096x1, .i1⟩
  | 4 => ⟨S_, .f32⟩
  | 5 => ⟨S_, .f32⟩
  | 6 => ⟨S4096x50, .f32⟩
  | 7 => ⟨S4096x50, .f32⟩
  | 8 => ⟨S_, .f32⟩
  | 9 => ⟨S_, .f32⟩
  | 10 => ⟨S4096x50, .i1⟩
  | 11 => ⟨S4096x50, .f32⟩
  | 12 => ⟨S4096x50, .f32⟩
  | 13 => ⟨S_, .f32⟩
  | 14 => ⟨S_, .f32⟩
  | 15 => ⟨S_, .f32⟩
  | 16 => ⟨S_, .f32⟩
  | _ => ⟨S4096x2x128, .f32⟩

abbrev hbmTy (i : Nat) : BufTy := match i / 128 with
  | 0 => hbmTy0_0 i
  | 1 => hbmTy0_1 i
  | _ => ⟨S4096x2x128, .f32⟩

abbrev bufTy : (tb : Table) → Fin (tcTables nBuf tb) → BufTy
  | .hbm, ⟨i, _⟩ => hbmTy i
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_cst_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_v69 : Ref sig .tc := ⟨.hbm, 114, rfl⟩
abbrev main_cst_14 : Ref sig .tc := ⟨.hbm, 115, rfl⟩
abbrev main_v70 : Ref sig .tc := ⟨.hbm, 116, rfl⟩
abbrev main_v71 : Ref sig .tc := ⟨.hbm, 117, rfl⟩
abbrev main_cst_15 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_16 : Ref sig .tc := ⟨.hbm, 122, rfl⟩
abbrev main_v75 : Ref sig .tc := ⟨.hbm, 123, rfl⟩
abbrev main_v76 : Ref sig .tc := ⟨.hbm, 124, rfl⟩
abbrev main_c : Ref sig .tc := ⟨.hbm, 125, rfl⟩
abbrev main_v77 : Ref sig .tc := ⟨.hbm, 126, rfl⟩
abbrev main_v78 : Ref sig .tc := ⟨.hbm, 127, rfl⟩
abbrev main_c_17 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_18 : Ref sig .tc := ⟨.hbm, 132, rfl⟩
abbrev main_call2_v0 : Ref sig .tc := ⟨.hbm, 133, rfl⟩
abbrev main_call2_v1 : Ref sig .tc := ⟨.hbm, 134, rfl⟩
abbrev main_v82 : Ref sig .tc := ⟨.hbm, 135, rfl⟩
abbrev main_cst_19 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_v83 : Ref sig .tc := ⟨.hbm, 140, rfl⟩
abbrev main_cst_20 : Ref sig .tc := ⟨.hbm, 141, rfl⟩
abbrev main_v84 : Ref sig .tc := ⟨.hbm, 142, rfl⟩
abbrev main_cst_21 : Ref sig .tc := ⟨.hbm, 143, rfl⟩
abbrev main_v85 : Ref sig .tc := ⟨.hbm, 144, rfl⟩

abbrev nD : Nat := 1
abbrev τ : Topo := Topo.v7x

variable {F : FTy → Type} [FloatOps F]
-- ==== Proof.KernelIdeal.Ring.lean ====
/- The stream of relation boxes through the scratch buffer. The buffer has two slots; a slot is filled by four transfers
   of 32 rows, each with its own semaphore. This module names the slots' parts, the operand's blocks and the cells, states
   what is held of them before each grid point, and says how the body's operands at a grid point are spelt in those names. -/
module

public import proofs.«01_k».proof.Proof.Gen.KernelIdeal.Frame
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Duck

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## Names -/

/-- The ring buffer, whole. -/
abbrev ringM : Memref sig .tc .vmem S2x128x50x256 .f32 := Memref.whole cc0_scratch0
/-- The running sum's buffer, whole. -/
abbrev accM : Memref sig .tc .vmem S1x128 .f32 := Memref.whole cc0_scratch1
/-- The relation boxes, whole, and with a row's left and right coordinates side by side. -/
abbrev relM : Memref sig .tc .hbm S4096x50x2x128 .f32 := Memref.whole main_arg1
abbrev relF : Memref sig .tc .hbm S4096x50x256 .f32 :=
  relM.reshape S4096x50x256 reshapes_S4096x50x2x128_S4096x50x256.1 reshapes_S4096x50x2x128_S4096x50x256.2 (Memref.isWhole_whole _).contiguous

/-- What a core's buffer behind a memref holds. -/
abbrev Held (c : Dev nD) {sp : Space} {S : Shape} {e : EltTy} (M : Memref sig .tc sp S e) : Type := Buf (Elt F) (M.view.loc (c : Thread nD τ))

theorem inb_part (s : Fin 2) (w : Fin 4) : ∀ a, (![s.val, 32 * w.val, 0, 0] : Fin 4 → Nat) a + S1x32x50x256.size a ≤ S2x128x50x256.size a := by
  have := s.isLt; have := w.isLt; intro a; fin_cases a <;> simp <;> omega
theorem inb_src (b : Fin 32) (w : Fin 4) : ∀ a, (![128 * b.val + 32 * w.val, 0, 0] : Fin 3 → Nat) a + S32x50x256.size a ≤ S4096x50x256.size a := by
  have := b.isLt; have := w.isLt; intro a; fin_cases a <;> simp <;> omega
theorem inb_cell (s : Fin 2) (w : Fin 4) : ∀ a, (![s.val, w.val] : Fin 2 → Nat) a + S1x1.size a ≤ S2x4.size a := by
  have := s.isLt; have := w.isLt; intro a; fin_cases a <;> simp <;> omega
theorem inb_slot (s : Fin 2) : ∀ a, (![s.val, 0, 0, 0] : Fin 4 → Nat) a + S1x128x50x256.size a ≤ S2x128x50x256.size a := by
  have := s.isLt; intro a; fin_cases a <;> simp <;> omega

/-- Part `w` of slot `s`: rows `32 w` to `32 w + 31`. -/
def partM (s : Fin 2) (w : Fin 4) : Memref sig .tc .vmem S32x50x256 .f32 :=
  (ringM.slice (Rect.unit (s := S2x128x50x256) ![s.val, 32 * w.val, 0, 0] S1x32x50x256.size (inb_part s w)) (fun _ => rfl)).squeeze S32x50x256 squeezes_S1x32x50x256_S32x50x256
/-- Part `w` of block `b` of the operand: rows `128 b + 32 w` to `128 b + 32 w + 31`. -/
def srcM (b : Fin 32) (w : Fin 4) : Memref sig .tc .hbm S32x50x256 .f32 :=
  relF.slice (Rect.unit (s := S4096x50x256) ![128 * b.val + 32 * w.val, 0, 0] S32x50x256.size (inb_src b w)) (fun _ => rfl)
/-- The semaphore of part `w` of slot `s`. -/
def cellA (s : Fin 2) (w : Fin 4) : DmaSems sig S_ :=
  (cc0_scratch2.slice (Rect.unit (s := S2x4) ![s.val, w.val] S1x1.size (inb_cell s w))).squeeze S_ squeezes_S1x1_S_
abbrev cellR (s : Fin 2) (w : Fin 4) : SemLoc sig := SemLoc.dma (cellA s w).sem

/-- A part's elements within the ring buffer, and a whole slot's. -/
abbrev partSet (s : Fin 2) (w : Fin 4) : Finset S2x128x50x256.Idx := (Rect.unit (s := S2x128x50x256) ![s.val, 32 * w.val, 0, 0] S1x32x50x256.size (inb_part s w)).set
abbrev slotSet (s : Fin 2) : Finset S2x128x50x256.Idx := (Rect.unit (s := S2x128x50x256) ![s.val, 0, 0, 0] S1x128x50x256.size (inb_slot s)).set
theorem partSet_eq (s : Fin 2) (w : Fin 4) : (partM s w).view.set = partSet s w := by
  simp only [partM, Memref.view_squeeze, View.set_reshape]; exact View.set_slice_whole _ _

/-- Parts of a slot are disjoint and make it up. -/
theorem mem_partSet {s : Fin 2} {w : Fin 4} {i : S2x128x50x256.Idx} : i ∈ partSet s w ↔ (i 0).val = s.val ∧ 32 * w.val ≤ (i 1).val ∧ (i 1).val < 32 * w.val + 32 := by
  rw [Rect.mem_set_unit]
  constructor
  · intro h
    have h0 := h 0; have h1 := h 1
    simp at h0 h1
    omega
  · rintro ⟨h0, h1, h2⟩ a
    have h2' : (i 2).val < 50 := (i 2).isLt
    have h3' : (i 3).val < 256 := (i 3).isLt
    fin_cases a <;> simp <;> omega
theorem mem_slotSet {s : Fin 2} {i : S2x128x50x256.Idx} : i ∈ slotSet s ↔ (i 0).val = s.val := by
  rw [Rect.mem_set_unit]
  constructor
  · intro h; have h0 := h 0; simp at h0; omega
  · intro h0 a
    have h1' : (i 1).val < 128 := (i 1).isLt
    have h2' : (i 2).val < 50 := (i 2).isLt
    have h3' : (i 3).val < 256 := (i 3).isLt
    fin_cases a <;> simp <;> omega
theorem part_disjoint (s : Fin 2) (w w' : Fin 4) (h : w ≠ w') : Disjoint (partSet s w) (partSet s w') := by
  rw [Finset.disjoint_left]; intro i hi hi'
  rw [mem_partSet] at hi hi'
  exact h (Fin.ext (by omega))
theorem part_cover (s : Fin 2) : Finset.univ.biUnion (partSet s) = slotSet s := by
  ext i; rw [Finset.mem_biUnion, mem_slotSet]
  constructor
  · rintro ⟨w, -, hw⟩; exact (mem_partSet.mp hw).1
  · intro h
    have h1 : (i 1).val < 128 := (i 1).isLt
    exact ⟨⟨(i 1).val / 32, by omega⟩, Finset.mem_univ _, mem_partSet.mpr ⟨h, by dsimp only; omega, by dsimp only; omega⟩⟩
theorem slot_disjoint (s s' : Fin 2) (h : s ≠ s') : Disjoint (slotSet s) (slotSet s') := by
  rw [Finset.disjoint_left]; intro i hi hi'
  rw [mem_slotSet] at hi hi'
  exact h (Fin.ext (by omega))
theorem slot_cover : Finset.univ.biUnion slotSet = Finset.univ := by
  ext i; rw [Finset.mem_biUnion]
  exact ⟨fun _ => Finset.mem_univ _, fun _ => ⟨⟨(i 0).val, (i 0).isLt⟩, Finset.mem_univ _, mem_slotSet.mpr rfl⟩⟩

/-! ## What is held -/

section Held
variable (c : Dev nD) (W : Held (F := F) c relM)

/-- The operand is lent by share: each of the eight parts has a read share of its own. -/
abbrev half (s : Fin 2) : PosShare TreeShare := if s.val = 0 then fullShare.left else fullShare.right
abbrev qs (s : Fin 2) (w : Fin 4) : PosShare TreeShare :=
  match w with
  | ⟨0, _⟩ => (half s).left.left
  | ⟨1, _⟩ => (half s).left.right
  | ⟨2, _⟩ => (half s).right.left
  | ⟨_ + 3, _⟩ => (half s).right.right

/-- A part held at `f`; its cell at zero; the block's part it borrows, the rest of its share, and its share whole. -/
abbrev partP (s : Fin 2) (w : Fin 4) (f : Held (F := F) c (partM s w)) : sProp 𝕄 := (partM s w).view.loc (c : Thread nD τ) ↦[(partM s w).view.set]{fullShare} f
abbrev cellP (s : Fin 2) (w : Fin 4) : sProp 𝕄 := semVal ((c : Thread nD τ), cellR s w) 0
abbrev srcP (s : Fin 2) (w : Fin 4) (b : Fin 32) : sProp 𝕄 := (srcM b w).view.loc (c : Thread nD τ) ↦[(srcM b w).view.set]{qs s w} W
def restP (s : Fin 2) (w : Fin 4) (b : Fin 32) : sProp 𝕄 := ((c : Thread nD τ).loc main_arg1) ↦[Finset.univ \ (srcM b w).view.set]{qs s w} W
abbrev wholeP (s : Fin 2) (w : Fin 4) : sProp 𝕄 := ((c : Thread nD τ).loc main_arg1) ↦[Finset.univ]{qs s w} W
/-- A part's contents once its transfer is in. -/
abbrev landed (s : Fin 2) (w : Fin 4) (b : Fin 32) (f : Held (F := F) c (partM s w)) : Held (F := F) c (partM s w) :=
  (partM s w).view.writes (Elt F) f [⟨Rect.whole S32x50x256, ReadAs.same.apply ((srcM b w).view.read (Elt F) W)⟩]
/-- The transfer of part `w` of block `b` on its way. -/
abbrev flightP (s : Fin 2) (w : Fin 4) (b : Fin 32) (f : Held (F := F) c (partM s w)) : sProp 𝕄 :=
  Transfers.Flight countersEmb (c : Thread nD τ) (cellR s w) default ((partM s w).view.amount (cellR s w))
    iprop(partP c s w (landed c W s w b f) ∗ srcP c W s w b)

/-- Part `w` of slot `s` at rest, and awaiting block `b`; the slot's four parts so. -/
abbrev restW (s : Fin 2) (w : Fin 4) : sProp 𝕄 := iprop(cellP c s w ∗ ∃ f, partP c s w f ∗ wholeP c W s w)
abbrev comeW (s : Fin 2) (w : Fin 4) (b : Fin 32) : sProp 𝕄 := iprop(∃ f, flightP c W s w b f ∗ restP c W s w b)
abbrev restS (s : Fin 2) : sProp 𝕄 := iprop(restW c W s 0 ∗ restW c W s 1 ∗ restW c W s 2 ∗ restW c W s 3)
abbrev comeS (s : Fin 2) (b : Fin 32) : sProp 𝕄 := iprop(comeW c W s 0 b ∗ comeW c W s 1 b ∗ comeW c W s 2 b ∗ comeW c W s 3 b)

/-- Before point `k`: both slots at rest before the first point and after the last; in between, block `k` on its way into
    slot `k mod 2`, the other slot at rest. -/
def ringAt (k : ℕ) : sProp 𝕄 :=
  if k = 0 then iprop(restS c W 0 ∗ restS c W 1)
  else if k < 32 then iprop(comeS c W (Ring.sl 2 k) (Ring.bk 32 k) ∗ restS c W (Ring.sl 2 (k + 1)))
  else iprop(restS c W 0 ∗ restS c W 1)

theorem partP_eq (s : Fin 2) (w : Fin 4) (f) : partP (F := F) c s w f = (((c : Thread nD τ).loc cc0_scratch0) ↦[partSet s w]{fullShare} f : sProp 𝕄) := by
  unfold partP; rw [partSet_eq]; rfl
theorem src_split (s : Fin 2) (w : Fin 4) (b : Fin 32) : wholeP (F := F) c W s w ⊣⊢ iprop(srcP c W s w b ∗ restP c W s w b) := by
  unfold restP; exact pointsTo_split_subset (Finset.subset_univ _)
theorem half_split (s : Fin 2) : (((c : Thread nD τ).loc main_arg1) ↦[Finset.univ]{half s} W : sProp 𝕄) ⊣⊢ iprop((wholeP c W s 0 ∗ wholeP c W s 1) ∗ (wholeP c W s 2 ∗ wholeP c W s 3)) :=
  (pointsTo_share (PosShare.mem_left_op_right (half s))).trans
    (sep_congr (pointsTo_share (PosShare.mem_left_op_right _)) (pointsTo_share (PosShare.mem_left_op_right _)))
theorem whole_split : (((c : Thread nD τ).loc main_arg1) ↦{fullShare} W : sProp 𝕄)
    ⊣⊢ iprop(((wholeP c W 0 0 ∗ wholeP c W 0 1) ∗ (wholeP c W 0 2 ∗ wholeP c W 0 3)) ∗ ((wholeP c W 1 0 ∗ wholeP c W 1 1) ∗ (wholeP c W 1 2 ∗ wholeP c W 1 3))) :=
  (pointsTo_share (PosShare.mem_left_op_right fullShare)).trans (sep_congr (half_split c W 0) (half_split c W 1))

end Held

end Cert.KernelIdeal.Duck

end
-- ==== Proof.KernelIdeal.Canon.lean ====
/- How the body's slices at a grid point are spelt in the ring's names, and when each of its branches is taken. -/
module

public import proofs.«01_k».proof.Proof.KernelIdeal.Ring

@[expose] public section

set_option maxRecDepth 16384

noncomputable section

namespace Cert.KernelIdeal.Duck

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The branches -/

abbrev condFirst (i : grid0.Coords) : Prop := (Scalar.cmpi .ne (Scalar.extui (Scalar.cmpi .eq (BitVec.ofNat 32 (i 0).val) 0#32)) 0#32) = 1#1
abbrev condMore (i : grid0.Coords) : Prop := k0_cond2 i = 1#1
abbrev condLast (i : grid0.Coords) : Prop := k0_cond4 i = 1#1
theorem condFirst_iff : ∀ t : Fin grid0.N, condFirst (grid0.coords t) ↔ t.val = 0 := by decide +kernel
theorem condMore_iff : ∀ t : Fin grid0.N, condMore (grid0.coords t) ↔ t.val < 31 := by decide +kernel
theorem condLast_iff : ∀ t : Fin grid0.N, condLast (grid0.coords t) ↔ t.val = 31 := by decide +kernel

/-! ## A slice at offsets that name a part is that part -/

theorem part_of {s : Fin 2} {w : Fin 4} {off : Fin 4 → Nat} (h : off = ![s.val, 32 * w.val, 0, 0]) (inb : ∀ a, off a + S1x32x50x256.size a ≤ S2x128x50x256.size a) :
    (ringM.slice (Rect.unit (s := S2x128x50x256) off S1x32x50x256.size inb) (fun _ => rfl)).squeeze S32x50x256 squeezes_S1x32x50x256_S32x50x256 = partM s w :=
  congrArg (fun M : Memref sig .tc .vmem S1x32x50x256 .f32 => M.squeeze S32x50x256 squeezes_S1x32x50x256_S32x50x256) (Memref.slice_unit_congr _ h _ _ (fun _ => rfl) (fun _ => rfl))
theorem src_of {b : Fin 32} {w : Fin 4} {off : Fin 3 → Nat} (h : off = ![128 * b.val + 32 * w.val, 0, 0]) (inb : ∀ a, off a + S32x50x256.size a ≤ S4096x50x256.size a) :
    relF.slice (Rect.unit (s := S4096x50x256) off S32x50x256.size inb) (fun _ => rfl) = srcM b w :=
  Memref.slice_unit_congr _ h _ _ (fun _ => rfl) (fun _ => rfl)
theorem cell_of {s : Fin 2} {w : Fin 4} {off : Fin 2 → Nat} (h : off = ![s.val, w.val]) (inb : ∀ a, off a + S1x1.size a ≤ S2x4.size a) :
    (cc0_scratch2.slice (Rect.unit (s := S2x4) off S1x1.size inb)).squeeze S_ squeezes_S1x1_S_ = cellA s w :=
  congrArg (fun A : DmaSems sig S1x1 => A.squeeze S_ squeezes_S1x1_S_) (SemArray.slice_unit_congr _ h _ _)

/-! ## The next block's slot -/

theorem off1_eq : ∀ t : Fin grid0.N, k0_off1 (grid0.coords t) = ![(Ring.sl 2 (t.val + 1)).val, ((0 : Fin 4)).val] := by decide +kernel
theorem off2_eq : ∀ t : Fin grid0.N, k0_off2 (grid0.coords t) = ![(Ring.sl 2 (t.val + 1)).val, 32 * ((0 : Fin 4)).val, 0, 0] := by decide +kernel
theorem off3_0_eq : ∀ t : Fin grid0.N, condMore (grid0.coords t) → k0_off3 (grid0.coords t) 0#32 = ![128 * (Ring.bk 32 (t.val + 1)).val + 32 * ((0 : Fin 4)).val, 0, 0] := by decide +kernel
@[sl_canon] theorem canon_off1 (t : Fin grid0.N) (h : condMore (grid0.coords t)) :
    (cc0_scratch2.slice (Rect.unit (s := S2x4) (k0_off1 (grid0.coords t)) S1x1.size (k0_off1_inb (grid0.coords t) h))).squeeze S_ squeezes_S1x1_S_ = cellA (Ring.sl 2 (t.val + 1)) 0 := cell_of (off1_eq t) _
@[sl_canon] theorem canon_off2 (t : Fin grid0.N) (h : condMore (grid0.coords t)) :
    (ringM.slice (Rect.unit (s := S2x128x50x256) (k0_off2 (grid0.coords t)) S1x32x50x256.size (k0_off2_inb (grid0.coords t) h)) (fun _ => rfl)).squeeze S32x50x256 squeezes_S1x32x50x256_S32x50x256 = partM (Ring.sl 2 (t.val + 1)) 0 := part_of (off2_eq t) _
@[sl_canon] theorem canon_off3_0 (t : Fin grid0.N) (h : condMore (grid0.coords t)) :
    relF.slice (Rect.unit (s := S4096x50x256) (k0_off3 (grid0.coords t) 0#32) S32x50x256.size (k0_off3_inb (grid0.coords t) h 0)) (fun _ => rfl) = srcM (Ring.bk 32 (t.val + 1)) 0 := src_of (off3_0_eq t h) _

theorem off4_eq : ∀ t : Fin grid0.N, k0_off4 (grid0.coords t) = ![(Ring.sl 2 (t.val + 1)).val, ((1 : Fin 4)).val] := by decide +kernel
theorem off5_eq : ∀ t : Fin grid0.N, k0_off5 (grid0.coords t) = ![(Ring.sl 2 (t.val + 1)).val, 32 * ((1 : Fin 4)).val, 0, 0] := by decide +kernel
theorem off3_1_eq : ∀ t : Fin grid0.N, condMore (grid0.coords t) → k0_off3 (grid0.coords t) 32#32 = ![128 * (Ring.bk 32 (t.val + 1)).val + 32 * ((1 : Fin 4)).val, 0, 0] := by decide +kernel
@[sl_canon] theorem canon_off4 (t : Fin grid0.N) (h : condMore (grid0.coords t)) :
    (cc0_scratch2.slice (Rect.unit (s := S2x4) (k0_off4 (grid0.coords t)) S1x1.size (k0_off4_inb (grid0.coords t) h))).squeeze S_ squeezes_S1x1_S_ = cellA (Ring.sl 2 (t.val + 1)) 1 := cell_of (off4_eq t) _
@[sl_canon] theorem canon_off5 (t : Fin grid0.N) (h : condMore (grid0.coords t)) :
    (ringM.slice (Rect.unit (s := S2x128x50x256) (k0_off5 (grid0.coords t)) S1x32x50x256.size (k0_off5_inb (grid0.coords t) h)) (fun _ => rfl)).squeeze S32x50x256 squeezes_S1x32x50x256_S32x50x256 = partM (Ring.sl 2 (t.val + 1)) 1 := part_of (off5_eq t) _
@[sl_canon] theorem canon_off3_1 (t : Fin grid0.N) (h : condMore (grid0.coords t)) :
    relF.slice (Rect.unit (s := S4096x50x256) (k0_off3 (grid0.coords t) 32#32) S32x50x256.size (k0_off3_inb (grid0.coords t) h 1)) (fun _ => rfl) = srcM (Ring.bk 32 (t.val + 1)) 1 := src_of (off3_1_eq t h) _

theorem off6_eq : ∀ t : Fin grid0.N, k0_off6 (grid0.coords t) = ![(Ring.sl 2 (t.val + 1)).val, ((2 : Fin 4)).val] := by decide +kernel
theorem off7_eq : ∀ t : Fin grid0.N, k0_off7 (grid0.coords t) = ![(Ring.sl 2 (t.val + 1)).val, 32 * ((2 : Fin 4)).val, 0, 0] := by decide +kernel
theorem off3_2_eq : ∀ t : Fin grid0.N, condMore (grid0.coords t) → k0_off3 (grid0.coords t) 64#32 = ![128 * (Ring.bk 32 (t.val + 1)).val + 32 * ((2 : Fin 4)).val, 0, 0] := by decide +kernel
@[sl_canon] theorem canon_off6 (t : Fin grid0.N) (h : condMore (grid0.coords t)) :
    (cc0_scratch2.slice (Rect.unit (s := S2x4) (k0_off6 (grid0.coords t)) S1x1.size (k0_off6_inb (grid0.coords t) h))).squeeze S_ squeezes_S1x1_S_ = cellA (Ring.sl 2 (t.val + 1)) 2 := cell_of (off6_eq t) _
@[sl_canon] theorem canon_off7 (t : Fin grid0.N) (h : condMore (grid0.coords t)) :
    (ringM.slice (Rect.unit (s := S2x128x50x256) (k0_off7 (grid0.coords t)) S1x32x50x256.size (k0_off7_inb (grid0.coords t) h)) (fun _ => rfl)).squeeze S32x50x256 squeezes_S1x32x50x256_S32x50x256 = partM (Ring.sl 2 (t.val + 1)) 2 := part_of (off7_eq t) _
@[sl_canon] theorem canon_off3_2 (t : Fin grid0.N) (h : condMore (grid0.coords t)) :
    relF.slice (Rect.unit (s := S4096x50x256) (k0_off3 (grid0.coords t) 64#32) S32x50x256.size (k0_off3_inb (grid0.coords t) h 2)) (fun _ => rfl) = srcM (Ring.bk 32 (t.val + 1)) 2 := src_of (off3_2_eq t h) _

theorem off8_eq : ∀ t : Fin grid0.N, k0_off8 (grid0.coords t) = ![(Ring.sl 2 (t.val + 1)).val, ((3 : Fin 4)).val] := by decide +kernel
theorem off9_eq : ∀ t : Fin grid0.N, k0_off9 (grid0.coords t) = ![(Ring.sl 2 (t.val + 1)).val, 32 * ((3 : Fin 4)).val, 0, 0] := by decide +kernel
theorem off3_3_eq : ∀ t : Fin grid0.N, condMore (grid0.coords t) → k0_off3 (grid0.coords t) 96#32 = ![128 * (Ring.bk 32 (t.val + 1)).val + 32 * ((3 : Fin 4)).val, 0, 0] := by decide +kernel
@[sl_canon] theorem canon_off8 (t : Fin grid0.N) (h : condMore (grid0.coords t)) :
    (cc0_scratch2.slice (Rect.unit (s := S2x4) (k0_off8 (grid0.coords t)) S1x1.size (k0_off8_inb (grid0.coords t) h))).squeeze S_ squeezes_S1x1_S_ = cellA (Ring.sl 2 (t.val + 1)) 3 := cell_of (off8_eq t) _
@[sl_canon] theorem canon_off9 (t : Fin grid0.N) (h : condMore (grid0.coords t)) :
    (ringM.slice (Rect.unit (s := S2x128x50x256) (k0_off9 (grid0.coords t)) S1x32x50x256.size (k0_off9_inb (grid0.coords t) h)) (fun _ => rfl)).squeeze S32x50x256 squeezes_S1x32x50x256_S32x50x256 = partM (Ring.sl 2 (t.val + 1)) 3 := part_of (off9_eq t) _
@[sl_canon] theorem canon_off3_3 (t : Fin grid0.N) (h : condMore (grid0.coords t)) :
    relF.slice (Rect.unit (s := S4096x50x256) (k0_off3 (grid0.coords t) 96#32) S32x50x256.size (k0_off3_inb (grid0.coords t) h 3)) (fun _ => rfl) = srcM (Ring.bk 32 (t.val + 1)) 3 := src_of (off3_3_eq t h) _

/-! ## This block's slot -/

theorem off10_eq : ∀ t : Fin grid0.N, k0_off10 (grid0.coords t) = ![(Ring.sl 2 t.val).val, ((0 : Fin 4)).val] := by decide +kernel
theorem off11_eq : ∀ t : Fin grid0.N, k0_off11 (grid0.coords t) = ![(Ring.sl 2 t.val).val, 32 * ((0 : Fin 4)).val, 0, 0] := by decide +kernel
theorem off12_0_eq : ∀ t : Fin grid0.N, k0_off12 (grid0.coords t) 0#32 = ![128 * (Ring.bk 32 t.val).val + 32 * ((0 : Fin 4)).val, 0, 0] := by decide +kernel
@[sl_canon] theorem canon_off10 (t : Fin grid0.N) :
    (cc0_scratch2.slice (Rect.unit (s := S2x4) (k0_off10 (grid0.coords t)) S1x1.size (k0_off10_inb (grid0.coords t)))).squeeze S_ squeezes_S1x1_S_ = cellA (Ring.sl 2 t.val) 0 := cell_of (off10_eq t) _
@[sl_canon] theorem canon_off11 (t : Fin grid0.N) :
    (ringM.slice (Rect.unit (s := S2x128x50x256) (k0_off11 (grid0.coords t)) S1x32x50x256.size (k0_off11_inb (grid0.coords t))) (fun _ => rfl)).squeeze S32x50x256 squeezes_S1x32x50x256_S32x50x256 = partM (Ring.sl 2 t.val) 0 := part_of (off11_eq t) _
@[sl_canon] theorem canon_off12_0 (t : Fin grid0.N) :
    relF.slice (Rect.unit (s := S4096x50x256) (k0_off12 (grid0.coords t) 0#32) S32x50x256.size (k0_off12_inb (grid0.coords t) 0)) (fun _ => rfl) = srcM (Ring.bk 32 t.val) 0 := src_of (off12_0_eq t) _

theorem off13_eq : ∀ t : Fin grid0.N, k0_off13 (grid0.coords t) = ![(Ring.sl 2 t.val).val, ((1 : Fin 4)).val] := by decide +kernel
theorem off14_eq : ∀ t : Fin grid0.N, k0_off14 (grid0.coords t) = ![(Ring.sl 2 t.val).val, 32 * ((1 : Fin 4)).val, 0, 0] := by decide +kernel
theorem off12_1_eq : ∀ t : Fin grid0.N, k0_off12 (grid0.coords t) 32#32 = ![128 * (Ring.bk 32 t.val).val + 32 * ((1 : Fin 4)).val, 0, 0] := by decide +kernel
@[sl_canon] theorem canon_off13 (t : Fin grid0.N) :
    (cc0_scratch2.slice (Rect.unit (s := S2x4) (k0_off13 (grid0.coords t)) S1x1.size (k0_off13_inb (grid0.coords t)))).squeeze S_ squeezes_S1x1_S_ = cellA (Ring.sl 2 t.val) 1 := cell_of (off13_eq t) _
@[sl_canon] theorem canon_off14 (t : Fin grid0.N) :
    (ringM.slice (Rect.unit (s := S2x128x50x256) (k0_off14 (grid0.coords t)) S1x32x50x256.size (k0_off14_inb (grid0.coords t))) (fun _ => rfl)).squeeze S32x50x256 squeezes_S1x32x50x256_S32x50x256 = partM (Ring.sl 2 t.val) 1 := part_of (off14_eq t) _
@[sl_canon] theorem canon_off12_1 (t : Fin grid0.N) :
    relF.slice (Rect.unit (s := S4096x50x256) (k0_off12 (grid0.coords t) 32#32) S32x50x256.size (k0_off12_inb (grid0.coords t) 1)) (fun _ => rfl) = srcM (Ring.bk 32 t.val) 1 := src_of (off12_1_eq t) _

theorem off15_eq : ∀ t : Fin grid0.N, k0_off15 (grid0.coords t) = ![(Ring.sl 2 t.val).val, ((2 : Fin 4)).val] := by decide +kernel
theorem off16_eq : ∀ t : Fin grid0.N, k0_off16 (grid0.coords t) = ![(Ring.sl 2 t.val).val, 32 * ((2 : Fin 4)).val, 0, 0] := by decide +kernel
theorem off12_2_eq : ∀ t : Fin grid0.N, k0_off12 (grid0.coords t) 64#32 = ![128 * (Ring.bk 32 t.val).val + 32 * ((2 : Fin 4)).val, 0, 0] := by decide +kernel
@[sl_canon] theorem canon_off15 (t : Fin grid0.N) :
    (cc0_scratch2.slice (Rect.unit (s := S2x4) (k0_off15 (grid0.coords t)) S1x1.size (k0_off15_inb (grid0.coords t)))).squeeze S_ squeezes_S1x1_S_ = cellA (Ring.sl 2 t.val) 2 := cell_of (off15_eq t) _
@[sl_canon] theorem canon_off16 (t : Fin grid0.N) :
    (ringM.slice (Rect.unit (s := S2x128x50x256) (k0_off16 (grid0.coords t)) S1x32x50x256.size (k0_off16_inb (grid0.coords t))) (fun _ => rfl)).squeeze S32x50x256 squeezes_S1x32x50x256_S32x50x256 = partM (Ring.sl 2 t.val) 2 := part_of (off16_eq t) _
@[sl_canon] theorem canon_off12_2 (t : Fin grid0.N) :
    relF.slice (Rect.unit (s := S4096x50x256) (k0_off12 (grid0.coords t) 64#32) S32x50x256.size (k0_off12_inb (grid0.coords t) 2)) (fun _ => rfl) = srcM (Ring.bk 32 t.val) 2 := src_of (off12_2_eq t) _

theorem off17_eq : ∀ t : Fin grid0.N, k0_off17 (grid0.coords t) = ![(Ring.sl 2 t.val).val, ((3 : Fin 4)).val] := by decide +kernel
theorem off18_eq : ∀ t : Fin grid0.N, k0_off18 (grid0.coords t) = ![(Ring.sl 2 t.val).val, 32 * ((3 : Fin 4)).val, 0, 0] := by decide +kernel
theorem off12_3_eq : ∀ t : Fin grid0.N, k0_off12 (grid0.coords t) 96#32 = ![128 * (Ring.bk 32 t.val).val + 32 * ((3 : Fin 4)).val, 0, 0] := by decide +kernel
@[sl_canon] theorem canon_off17 (t : Fin grid0.N) :
    (cc0_scratch2.slice (Rect.unit (s := S2x4) (k0_off17 (grid0.coords t)) S1x1.size (k0_off17_inb (grid0.coords t)))).squeeze S_ squeezes_S1x1_S_ = cellA (Ring.sl 2 t.val) 3 := cell_of (off17_eq t) _
@[sl_canon] theorem canon_off18 (t : Fin grid0.N) :
    (ringM.slice (Rect.unit (s := S2x128x50x256) (k0_off18 (grid0.coords t)) S1x32x50x256.size (k0_off18_inb (grid0.coords t))) (fun _ => rfl)).squeeze S32x50x256 squeezes_S1x32x50x256_S32x50x256 = partM (Ring.sl 2 t.val) 3 := part_of (off18_eq t) _
@[sl_canon] theorem canon_off12_3 (t : Fin grid0.N) :
    relF.slice (Rect.unit (s := S4096x50x256) (k0_off12 (grid0.coords t) 96#32) S32x50x256.size (k0_off12_inb (grid0.coords t) 3)) (fun _ => rfl) = srcM (Ring.bk 32 t.val) 3 := src_of (off12_3_eq t) _

theorem off19_eq : ∀ t : Fin grid0.N, k0_off19 (grid0.coords t) = ![(Ring.sl 2 t.val).val, 0, 0, 0] := by decide +kernel
instance (priority := high) closedOff19 (t : Fin grid0.N) : ClosedOff (k0_off19 (grid0.coords t)) := ⟨![(Ring.sl 2 t.val).val, 0, 0, 0], off19_eq t⟩

/-! ## The first block's slot, which the first point names by numbers -/

theorem num_cell0 : ∀ t : Fin grid0.N, condFirst (grid0.coords t) → (![0, 0] : Fin 2 → Nat) = ![(Ring.sl 2 t.val).val, ((0 : Fin 4)).val] := by decide +kernel
theorem num_part0 : ∀ t : Fin grid0.N, condFirst (grid0.coords t) → (![0, 0, 0, 0] : Fin 4 → Nat) = ![(Ring.sl 2 t.val).val, 32 * ((0 : Fin 4)).val, 0, 0] := by decide +kernel
theorem num_src0 : ∀ t : Fin grid0.N, condFirst (grid0.coords t) → (![0, 0, 0] : Fin 3 → Nat) = ![128 * (Ring.bk 32 t.val).val + 32 * ((0 : Fin 4)).val, 0, 0] := by decide +kernel
@[sl_canon] theorem canon_cell0 (t : Fin grid0.N) (h : condFirst (grid0.coords t)) :
    (cc0_scratch2.slice (Rect.unit (s := S2x4) ![0, 0] S1x1.size inb_S2x4_S1x1_0_0)).squeeze S_ squeezes_S1x1_S_ = cellA (Ring.sl 2 t.val) 0 := cell_of (num_cell0 t h) _
@[sl_canon] theorem canon_part0 (t : Fin grid0.N) (h : condFirst (grid0.coords t)) :
    (ringM.slice (Rect.unit (s := S2x128x50x256) ![0, 0, 0, 0] S1x32x50x256.size inb_S2x128x50x256_S1x32x50x256_0_0_0_0) (fun _ => rfl)).squeeze S32x50x256 squeezes_S1x32x50x256_S32x50x256 = partM (Ring.sl 2 t.val) 0 := part_of (num_part0 t h) _
@[sl_canon] theorem canon_src0 (t : Fin grid0.N) (h : condFirst (grid0.coords t)) :
    relF.slice (Rect.unit (s := S4096x50x256) ![0, 0, 0] S32x50x256.size inb_S4096x50x256_S32x50x256_0_0_0) (fun _ => rfl) = srcM (Ring.bk 32 t.val) 0 := src_of (num_src0 t h) _

theorem num_cell1 : ∀ t : Fin grid0.N, condFirst (grid0.coords t) → (![0, 1] : Fin 2 → Nat) = ![(Ring.sl 2 t.val).val, ((1 : Fin 4)).val] := by decide +kernel
theorem num_part1 : ∀ t : Fin grid0.N, condFirst (grid0.coords t) → (![0, 32, 0, 0] : Fin 4 → Nat) = ![(Ring.sl 2 t.val).val, 32 * ((1 : Fin 4)).val, 0, 0] := by decide +kernel
theorem num_src1 : ∀ t : Fin grid0.N, condFirst (grid0.coords t) → (![32, 0, 0] : Fin 3 → Nat) = ![128 * (Ring.bk 32 t.val).val + 32 * ((1 : Fin 4)).val, 0, 0] := by decide +kernel
@[sl_canon] theorem canon_cell1 (t : Fin grid0.N) (h : condFirst (grid0.coords t)) :
    (cc0_scratch2.slice (Rect.unit (s := S2x4) ![0, 1] S1x1.size inb_S2x4_S1x1_0_1)).squeeze S_ squeezes_S1x1_S_ = cellA (Ring.sl 2 t.val) 1 := cell_of (num_cell1 t h) _
@[sl_canon] theorem canon_part1 (t : Fin grid0.N) (h : condFirst (grid0.coords t)) :
    (ringM.slice (Rect.unit (s := S2x128x50x256) ![0, 32, 0, 0] S1x32x50x256.size inb_S2x128x50x256_S1x32x50x256_0_32_0_0) (fun _ => rfl)).squeeze S32x50x256 squeezes_S1x32x50x256_S32x50x256 = partM (Ring.sl 2 t.val) 1 := part_of (num_part1 t h) _
@[sl_canon] theorem canon_src1 (t : Fin grid0.N) (h : condFirst (grid0.coords t)) :
    relF.slice (Rect.unit (s := S4096x50x256) ![32, 0, 0] S32x50x256.size inb_S4096x50x256_S32x50x256_32_0_0) (fun _ => rfl) = srcM (Ring.bk 32 t.val) 1 := src_of (num_src1 t h) _

theorem num_cell2 : ∀ t : Fin grid0.N, condFirst (grid0.coords t) → (![0, 2] : Fin 2 → Nat) = ![(Ring.sl 2 t.val).val, ((2 : Fin 4)).val] := by decide +kernel
theorem num_part2 : ∀ t : Fin grid0.N, condFirst (grid0.coords t) → (![0, 64, 0, 0] : Fin 4 → Nat) = ![(Ring.sl 2 t.val).val, 32 * ((2 : Fin 4)).val, 0, 0] := by decide +kernel
theorem num_src2 : ∀ t : Fin grid0.N, condFirst (grid0.coords t) → (![64, 0, 0] : Fin 3 → Nat) = ![128 * (Ring.bk 32 t.val).val + 32 * ((2 : Fin 4)).val, 0, 0] := by decide +kernel
@[sl_canon] theorem canon_cell2 (t : Fin grid0.N) (h : condFirst (grid0.coords t)) :
    (cc0_scratch2.slice (Rect.unit (s := S2x4) ![0, 2] S1x1.size inb_S2x4_S1x1_0_2)).squeeze S_ squeezes_S1x1_S_ = cellA (Ring.sl 2 t.val) 2 := cell_of (num_cell2 t h) _
@[sl_canon] theorem canon_part2 (t : Fin grid0.N) (h : condFirst (grid0.coords t)) :
    (ringM.slice (Rect.unit (s := S2x128x50x256) ![0, 64, 0, 0] S1x32x50x256.size inb_S2x128x50x256_S1x32x50x256_0_64_0_0) (fun _ => rfl)).squeeze S32x50x256 squeezes_S1x32x50x256_S32x50x256 = partM (Ring.sl 2 t.val) 2 := part_of (num_part2 t h) _
@[sl_canon] theorem canon_src2 (t : Fin grid0.N) (h : condFirst (grid0.coords t)) :
    relF.slice (Rect.unit (s := S4096x50x256) ![64, 0, 0] S32x50x256.size inb_S4096x50x256_S32x50x256_64_0_0) (fun _ => rfl) = srcM (Ring.bk 32 t.val) 2 := src_of (num_src2 t h) _

theorem num_cell3 : ∀ t : Fin grid0.N, condFirst (grid0.coords t) → (![0, 3] : Fin 2 → Nat) = ![(Ring.sl 2 t.val).val, ((3 : Fin 4)).val] := by decide +kernel
theorem num_part3 : ∀ t : Fin grid0.N, condFirst (grid0.coords t) → (![0, 96, 0, 0] : Fin 4 → Nat) = ![(Ring.sl 2 t.val).val, 32 * ((3 : Fin 4)).val, 0, 0] := by decide +kernel
theorem num_src3 : ∀ t : Fin grid0.N, condFirst (grid0.coords t) → (![96, 0, 0] : Fin 3 → Nat) = ![128 * (Ring.bk 32 t.val).val + 32 * ((3 : Fin 4)).val, 0, 0] := by decide +kernel
@[sl_canon] theorem canon_cell3 (t : Fin grid0.N) (h : condFirst (grid0.coords t)) :
    (cc0_scratch2.slice (Rect.unit (s := S2x4) ![0, 3] S1x1.size inb_S2x4_S1x1_0_3)).squeeze S_ squeezes_S1x1_S_ = cellA (Ring.sl 2 t.val) 3 := cell_of (num_cell3 t h) _
@[sl_canon] theorem canon_part3 (t : Fin grid0.N) (h : condFirst (grid0.coords t)) :
    (ringM.slice (Rect.unit (s := S2x128x50x256) ![0, 96, 0, 0] S1x32x50x256.size inb_S2x128x50x256_S1x32x50x256_0_96_0_0) (fun _ => rfl)).squeeze S32x50x256 squeezes_S1x32x50x256_S32x50x256 = partM (Ring.sl 2 t.val) 3 := part_of (num_part3 t h) _
@[sl_canon] theorem canon_src3 (t : Fin grid0.N) (h : condFirst (grid0.coords t)) :
    relF.slice (Rect.unit (s := S4096x50x256) ![96, 0, 0] S32x50x256.size inb_S4096x50x256_S32x50x256_96_0_0) (fun _ => rfl) = srcM (Ring.bk 32 t.val) 3 := src_of (num_src3 t h) _

end Cert.KernelIdeal.Duck

end
-- ==== Proof.KernelIdeal.Slot.lean ====
/- A slot whose four transfers are in holds its block of the operand: the parts join to the slot at one contents. -/
module

public import proofs.«01_k».proof.Proof.KernelIdeal.Canon
public import Idealize.ShloMosaic.Lib.WholeRead
public import Idealize.ShloMosaic.Lib.VecWindow
public import Idealize.ShloMosaic.Lib.ValueIdx

@[expose] public section

set_option maxRecDepth 16384

noncomputable section

namespace Cert.KernelIdeal.Duck

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A whole view written by one piece, at an element of its own. -/
theorem writes_whole_emb {κ : Kind} {sp : Space} {s : Shape} {e : EltTy} {Val : EltTy → Type} (v : View sig κ sp s e) (f : v.ty.Contents Val) (w : s.Idx → Val e) (j : s.Idx) :
    v.writes Val f [⟨Rect.whole s, w⟩] (v.emb j) = cast (congrArg Val v.elt_eq.symm) (w j) := by
  have h := congrFun (View.read_writes_full (Val := Val) v f (off := fun _ => 0) (fun a => by simp) w []) j
  rw [View.read_apply] at h
  rw [← h, cast_cast, cast_eq]; rfl

section Slot
variable (c : Dev nD) (W : Held (F := F) c relM)

/-- The relation boxes, a row's left and right coordinates side by side. -/
abbrev boxes : Vec F S4096x50x256 .f32 := relF.view.read (Elt F) W

/-- Block `b` laid over the ring buffer, the same in either slot. -/
def blockF (b : Fin 32) : Held (F := F) c ringM := fun i : S2x128x50x256.Idx =>
  boxes c W (ValueIdx.ix3 ⟨128 * b.val + (i 1).val, by have := b.isLt; have h : (i 1).val < 128 := (i 1).isLt; omega⟩ ⟨(i 2).val, (i 2).isLt⟩ ⟨(i 3).val, (i 3).isLt⟩)

theorem part_at (s : Fin 2) (w : Fin 4) (j : S32x50x256.Idx) :
    (partM s w).view.emb j = (Rect.unit (s := S2x128x50x256) ![s.val, 32 * w.val, 0, 0] S1x32x50x256.size (inb_part s w)).idx (Fin.cons (α := fun a => Fin (S1x32x50x256.size a)) (0 : Fin 1) j) := by
  refine Eq.trans (b := (Rect.unit (s := S2x128x50x256) ![s.val, 32 * w.val, 0, 0] S1x32x50x256.size (inb_part s w)).idx (Shape.reshapeEquiv (s' := S32x50x256) (s := S1x32x50x256) squeezes_S1x32x50x256_S32x50x256.numel_eq j)) rfl ?_
  exact congrArg _ (Shape.reshapeEquiv_cons_one (d := ![32, 50, 256]) squeezes_S1x32x50x256_S32x50x256.numel_eq j)

theorem block_part (s : Fin 2) (w : Fin 4) (b : Fin 32) (j : S32x50x256.Idx) :
    blockF c W b ((partM s w).view.emb j : S2x128x50x256.Idx) = (srcM b w).view.read (Elt F) W j := by
  rw [part_at]
  refine Eq.trans ?_ (b := boxes c W ((Rect.unit (s := S4096x50x256) ![128 * b.val + 32 * w.val, 0, 0] S32x50x256.size (inb_src b w)).idx j)) rfl
  unfold blockF
  refine congrArg (boxes c W) ?_
  rw [ValueIdx.eq_ix3 (n0 := 4096) (n1 := 50) (n2 := 256) ((Rect.unit (s := S4096x50x256) ![128 * b.val + 32 * w.val, 0, 0] S32x50x256.size (inb_src b w)).idx j)]
  congr 1 <;> refine Fin.ext ?_
  show 128 * b.val + (32 * w.val + 1 * (j 0).val) = 128 * b.val + 32 * w.val + 1 * (j 0).val
  omega

theorem part_landed (s : Fin 2) (w : Fin 4) (b : Fin 32) (f : Held (F := F) c (partM s w)) :
    partP c s w (landed c W s w b f) = (((c : Thread nD τ).loc cc0_scratch0) ↦[partSet s w]{fullShare} blockF c W b : sProp 𝕄) := by
  refine (partP_eq c s w _).trans (pointsTo_congr fun i hi => ?_)
  rw [← partSet_eq] at hi
  obtain ⟨j, -, rfl⟩ := Finset.mem_map.mp hi
  refine (writes_whole_emb (partM s w).view f _ j).trans ((cast_eq _ _).trans (Eq.trans ?_ (block_part c W s w b j).symm))
  rfl

theorem bigSep_four {P : Fin 4 → sProp 𝕄} : bigSep Finset.univ P = iprop(P 0 ∗ P 1 ∗ P 2 ∗ P 3) :=
  bigSep_univ_eq_bigSepL [(0 : Fin 4), 1, 2, 3] (by decide) (by decide) P

/-- A slot held at one contents is its four parts held at them. -/
theorem slot_sets (s : Fin 2) (f : Held (F := F) c ringM) :
    (ringM.view.loc (c : Thread nD τ) ↦[slotSet s]{fullShare} f : sProp 𝕄)
      = iprop((((c : Thread nD τ).loc cc0_scratch0) ↦[partSet s 0]{fullShare} f) ∗ (((c : Thread nD τ).loc cc0_scratch0) ↦[partSet s 1]{fullShare} f)
          ∗ (((c : Thread nD τ).loc cc0_scratch0) ↦[partSet s 2]{fullShare} f) ∗ (((c : Thread nD τ).loc cc0_scratch0) ↦[partSet s 3]{fullShare} f)) := by
  refine (Ring.pointsTo_sub_blocks (ℓ := (c : Thread nD τ).loc cc0_scratch0) (partSet s) (part_disjoint s) (slotSet s) (part_cover s) f).trans ?_
  exact bigSep_four (F := F)
theorem slot_parts (s : Fin 2) (f : Held (F := F) c ringM) :
    (ringM.view.loc (c : Thread nD τ) ↦[slotSet s]{fullShare} f : sProp 𝕄)
      = iprop(partP c s 0 f ∗ partP c s 1 f ∗ partP c s 2 f ∗ partP c s 3 f) :=
  (slot_sets c s f).trans (congrArg₂ _ (partP_eq c s 0 f).symm (congrArg₂ _ (partP_eq c s 1 f).symm (congrArg₂ _ (partP_eq c s 2 f).symm (partP_eq c s 3 f).symm)))

/-- Slot `s` of the ring. -/
abbrev slotM (s : Fin 2) : Memref sig .tc .vmem S1x128x50x256 .f32 :=
  ringM.slice (Rect.unit (s := S2x128x50x256) ![s.val, 0, 0, 0] S1x128x50x256.size (inb_slot s)) (fun _ => rfl)
theorem slotM_set (s : Fin 2) : (slotM s).view.set = slotSet s := View.set_slice_whole _ _

/-- The four parts of a slot, landed from block `b`, are the slot at block `b`. -/
theorem slot_landed (s : Fin 2) (b : Fin 32) (f0 : Held (F := F) c (partM s 0)) (f1 : Held (F := F) c (partM s 1)) (f2 : Held (F := F) c (partM s 2)) (f3 : Held (F := F) c (partM s 3)) :
    iprop(partP c s 0 (landed c W s 0 b f0) ∗ partP c s 1 (landed c W s 1 b f1) ∗ partP c s 2 (landed c W s 2 b f2) ∗ partP c s 3 (landed c W s 3 b f3))
      = ((slotM s).view.loc (c : Thread nD τ) ↦[(slotM s).view.set]{fullShare} blockF c W b : sProp 𝕄) := by
  rw [slotM_set]
  exact (congrArg₂ _ (part_landed c W s 0 b f0) (congrArg₂ _ (part_landed c W s 1 b f1) (congrArg₂ _ (part_landed c W s 2 b f2) (part_landed c W s 3 b f3)))).trans (slot_sets c s _).symm
theorem slot_back (s : Fin 2) (f : Held (F := F) c ringM) :
    ((slotM s).view.loc (c : Thread nD τ) ↦[(slotM s).view.set]{fullShare} f : sProp 𝕄)
      = iprop(partP c s 0 f ∗ partP c s 1 f ∗ partP c s 2 f ∗ partP c s 3 f) := by
  rw [slotM_set]; exact slot_parts c s f

/-- What the load of slot `s` finds there: block `b`. -/
def blockX (b : Fin 32) : Vec F S1x128x50x256 .f32 := fun i =>
  boxes c W (ValueIdx.ix3 ⟨128 * b.val + (i 1).val, by have := b.isLt; have h : (i 1).val < 128 := (i 1).isLt; omega⟩ ⟨(i 2).val, (i 2).isLt⟩ ⟨(i 3).val, (i 3).isLt⟩)
theorem slot_load (b : Fin 32) {s : Fin 2} {off : Fin 4 → Nat} (h : off = ![s.val, 0, 0, 0]) (inb) :
    View.readAt (Elt F) ringM.view (Rect.unit (s := S2x128x50x256) off S1x128x50x256.size inb).toLoadRect (blockF c W b) = blockX c W b := by
  subst h
  funext i
  show blockF c W b ((Rect.unit (s := S2x128x50x256) ![s.val, 0, 0, 0] S1x128x50x256.size inb).idx i) = _
  unfold blockF blockX
  refine congrArg (boxes c W) ?_
  congr 1 <;> refine Fin.ext ?_
  · show 128 * b.val + (0 + 1 * (i 1).val) = 128 * b.val + (i 1).val
    omega
  · show 0 + 1 * (i 2).val = (i 2).val
    omega
  · show 0 + 1 * (i 3).val = (i 3).val
    omega

end Slot

end Cert.KernelIdeal.Duck

end
-- ==== Proof.KernelIdeal.Run.lean ====
/- The body at the first point, in between, and at the last: the block at hand is taken from its slot, the next one is sent
   for, and the accumulator goes on by one step. -/
module

public import proofs.«01_k».proof.Proof.Gen.KernelIdeal.Skeleton
public import proofs.«01_k».proof.Proof.KernelIdeal.Slot

@[expose] public section

set_option maxRecDepth 16384

noncomputable section

namespace Cert.KernelIdeal.Duck

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The entity boxes of a block: the left and the right coordinates. -/
def row0 (x0 : Vec F S128x2x128 .f32) : Vec F S128x1x128 .f32 := fun j => x0 ((Rect.unit (s := S128x2x128) ![0, 0, 0] S128x1x128.size inb_S128x2x128_S128x1x128_0_0_0).toLoadRect.idx j)
def row1 (x0 : Vec F S128x2x128 .f32) : Vec F S128x1x128 .f32 := fun j => x0 ((Rect.unit (s := S128x2x128) ![0, 1, 0] S128x1x128.size inb_S128x2x128_S128x1x128_0_1_0).toLoadRect.idx j)

/-- What a point makes of the accumulator, from its blocks of the operands. -/
def step (x0 : Vec F S128x2x128 .f32) (x1 : Vec F S128x1 .i32) (x2 : Vec F S128x50 .i32) (xr : Vec F S1x128x50x256 .f32) (a : Vec F S1x128 .f32) : Vec F S1x128 .f32 :=
  k0_pay12 (k0_pay8 (k0_pay2 (row0 x0)) (k0_pay3 (row1 x0)) (k0_pay4 xr) (k0_pay5 xr)) (k0_pay9 (k0_pay4 xr) (k0_pay5 xr)) (k0_pay10 x2 x1) a

/-! The windows as they lie, read off what they hold. -/
section Reads
variable {arg1 : Memref sig .tc .vmem S128x2x128 .f32} (harg1 : arg1.IsWhole) {arg2 : Memref sig .tc .vmem S128x1 .i32} (harg2 : arg2.IsWhole) {arg3 : Memref sig .tc .vmem S128x50 .i32} (harg3 : arg3.IsWhole)
    (x0 : Vec F S128x2x128 .f32) (x1 : Vec F S128x1 .i32) (x2 : Vec F S128x50 .i32)
theorem read_row0 : View.readAt (Elt F) arg1.view (Rect.unit (s := S128x2x128) ![0, 0, 0] S128x1x128.size inb_S128x2x128_S128x1x128_0_0_0).toLoadRect (harg1.unread x0) = row0 x0 :=
  funext fun j => harg1.readAt_unread x0 _ j
theorem read_row1 : View.readAt (Elt F) arg1.view (Rect.unit (s := S128x2x128) ![0, 1, 0] S128x1x128.size inb_S128x2x128_S128x1x128_0_1_0).toLoadRect (harg1.unread x0) = row1 x0 :=
  funext fun j => harg1.readAt_unread x0 _ j
theorem read_erc : View.readAt (Elt F) arg2.view (Rect.unit (s := S128x1) ![0, 0] S128x1.size inb_S128x1_S128x1_0_0).toLoadRect (harg2.unread x1) = x1 := by
  rw [View.readAt_full]; exact harg2.read_unread x1
theorem read_nrc : View.readAt (Elt F) arg3.view (Rect.unit (s := S128x50) ![0, 0] S128x50.size inb_S128x50_S128x50_0_0).toLoadRect (harg3.unread x2) = x2 := by
  rw [View.readAt_full]; exact harg3.read_unread x2
theorem read_acc (a : Vec F S1x128 .f32) (h : accM.IsWhole) : View.readAt (Elt F) accM.view (Rect.unit (s := S1x128) ![0, 0] S1x128.size inb_S1x128_S1x128_0_0).toLoadRect (h.unread a) = a := by
  rw [View.readAt_full]; exact h.read_unread a
theorem step_of {v42 v49 v55 v97 v100 v142} {xr : Vec F S1x128x50x256 .f32} {a : Vec F S1x128 .f32} (h42 : v42 = row0 x0) (h49 : v49 = row1 x0) (h55 : v55 = xr) (h97 : v97 = x2) (h100 : v100 = x1) (h142 : v142 = a) :
    k0_pay12 (k0_pay8 (k0_pay2 v42) (k0_pay3 v49) (k0_pay4 v55) (k0_pay5 v55)) (k0_pay9 (k0_pay4 v55) (k0_pay5 v55)) (k0_pay10 v97 v100) v142 = step x0 x1 x2 xr a := by
  subst h42 h49 h55 h97 h100 h142; rfl
end Reads

set_option maxHeartbeats 2000000 in
theorem runA (c : Dev nD) (t : Fin cfg0.N) (arg1 : Memref sig .tc .vmem S128x2x128 .f32) (harg1 : arg1.IsWhole) (arg2 : Memref sig .tc .vmem S128x1 .i32) (harg2 : arg2.IsWhole)
    (arg3 : Memref sig .tc .vmem S128x50 .i32) (harg3 : arg3.IsWhole) (arg5 : Memref sig .tc .vmem S1x1 .f32) (harg5 : arg5.IsWhole)
    (h0 : condFirst (grid0.coords t)) (h1 : condMore (grid0.coords t)) (h2 : ¬condLast (grid0.coords t))
    (x0 : Vec F S128x2x128 .f32) (x1 : Vec F S128x1 .i32) (x2 : Vec F S128x50 .i32) (W : Held (F := F) c relM) (D : Waits sig Unit) (K : PUnit → sProp 𝕄) :
    iprop(owns (c : Thread nD τ) arg1 fullShare x0 ∗ owns (c : Thread nD τ) arg2 fullShare x1 ∗ owns (c : Thread nD τ) arg3 fullShare x2
        ∗ (∃ a, owns (c : Thread nD τ) accM fullShare a) ∗ restS c W (Ring.sl 2 t.val) ∗ restS c W (Ring.sl 2 (t.val + 1)) ∗ owes (c : Thread nD τ) 0 D
        ∗ (iprop(owns (c : Thread nD τ) arg1 fullShare x0 ∗ owns (c : Thread nD τ) arg2 fullShare x1 ∗ owns (c : Thread nD τ) arg3 fullShare x2
            ∗ owns (c : Thread nD τ) accM fullShare (step x0 x1 x2 (blockX c W (Ring.bk 32 t.val)) k0_pay11) ∗ comeS c W (Ring.sl 2 (t.val + 1)) (Ring.bk 32 (t.val + 1)) ∗ restS c W (Ring.sl 2 t.val) ∗ ∃ D', owes (c : Thread nD τ) 0 D') -∗ K ⟨⟩))
      ⊢ wp frame (wpE (defs₀ (F := F)) Variants.none c none) Set.univ (cc0__duck_body (grid0.coords t) arg1 harg1 arg2 harg2 arg3 harg3 relM (Memref.isWhole_whole _) arg5 harg5 ringM (Memref.isWhole_whole _) accM (Memref.isWhole_whole _) cc0_scratch2) K := by
  haveI : Fact (condFirst (grid0.coords t)) := ⟨h0⟩
  haveI : Fact (condMore (grid0.coords t)) := ⟨h1⟩
  haveI : Fact (¬condLast (grid0.coords t)) := ⟨h2⟩
  simp only [cc0__duck_body_eq_skeleton]; unfold cc0__duck_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%a, %f3, %hf3, H3⟩, ⟨⟨Hf0, ⟨%g0, Hd0, Hu0⟩⟩, ⟨Hf1, ⟨%g1, Hd1, Hu1⟩⟩, ⟨Hf2, ⟨%g2, Hd2, Hu2⟩⟩, ⟨Hf3, ⟨%g3, Hd3, Hu3⟩⟩⟩, ⟨⟨Hc0, ⟨%p0, Hp0, Hw0⟩⟩, ⟨Hc1, ⟨%p1, Hp1, Hw1⟩⟩, ⟨Hc2, ⟨%p2, Hp2, Hw2⟩⟩, ⟨Hc3, ⟨%p3, Hp3, Hw3⟩⟩⟩, HW, Hk⟩
  icases (src_split c W (Ring.sl 2 t.val) 0 (Ring.bk 32 t.val)).1 $$ Hu0 with ⟨He0, Hr0⟩
  icases (src_split c W (Ring.sl 2 t.val) 1 (Ring.bk 32 t.val)).1 $$ Hu1 with ⟨He1, Hr1⟩
  icases (src_split c W (Ring.sl 2 t.val) 2 (Ring.bk 32 t.val)).1 $$ Hu2 with ⟨He2, Hr2⟩
  icases (src_split c W (Ring.sl 2 t.val) 3 (Ring.bk 32 t.val)).1 $$ Hu3 with ⟨He3, Hr3⟩
  icases (src_split c W (Ring.sl 2 (t.val + 1)) 0 (Ring.bk 32 (t.val + 1))).1 $$ Hw0 with ⟨Hs0, Ht0⟩
  icases (src_split c W (Ring.sl 2 (t.val + 1)) 1 (Ring.bk 32 (t.val + 1))).1 $$ Hw1 with ⟨Hs1, Ht1⟩
  icases (src_split c W (Ring.sl 2 (t.val + 1)) 2 (Ring.bk 32 (t.val + 1))).1 $$ Hw2 with ⟨Hs2, Ht2⟩
  icases (src_split c W (Ring.sl 2 (t.val + 1)) 3 (Ring.bk 32 (t.val + 1))).1 $$ Hw3 with ⟨Hs3, Ht3⟩
  obtain rfl := harg1.eq_unread hf0; obtain rfl := harg2.eq_unread hf1; obtain rfl := harg3.eq_unread hf2
  obtain rfl := (Memref.isWhole_whole cc0_scratch1).eq_unread hf3
  sl_exec (disch := first | sl_exact h0 | sl_exact h1 | sl_exact h2)
  ihave Hslot := (BiEntails.of_eq (slot_landed c W (Ring.sl 2 t.val) (Ring.bk 32 t.val) g0 g1 g2 g3)).1 $$ [$Hd0 $Hd1 $Hd2 $Hd3]
  sl_exec (disch := first | sl_exact h0 | sl_exact h1 | sl_exact h2)
  ihave Hparts := (BiEntails.of_eq (slot_back c (Ring.sl 2 t.val) (blockF c W (Ring.bk 32 t.val)))).1 $$ Hslot
  icases Hparts with ⟨Hz0, Hz1, Hz2, Hz3⟩
  ihave Hv0 := (src_split c W (Ring.sl 2 t.val) 0 (Ring.bk 32 t.val)).2 $$ [$He0 $Hr0]
  ihave Hv1 := (src_split c W (Ring.sl 2 t.val) 1 (Ring.bk 32 t.val)).2 $$ [$He1 $Hr1]
  ihave Hv2 := (src_split c W (Ring.sl 2 t.val) 2 (Ring.bk 32 t.val)).2 $$ [$He2 $Hr2]
  ihave Hv3 := (src_split c W (Ring.sl 2 t.val) 3 (Ring.bk 32 t.val)).2 $$ [$He3 $Hr3]
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr; swap
    · iexact H3
    · ipureintro
      refine (View.read_writes_full _ _ _ _ _).trans ?_
      exact ((step_of x0 x1 x2 (read_row0 harg1 x0) (read_row1 harg1 x0) (slot_load c W _ (off19_eq t) _) (read_nrc harg3 x2) (read_erc harg2 x1) (View.readCov_full accM.view _ inb_S1x128_S1x128_0_0 _ _)))
  isplitl [Hc0 Hc1 Hc2 Hc3 Ht0 Ht1 Ht2 Ht3]
  · isplitl [Hc0 Ht0]
    · iexists _; isplitl [Hc0]
      · iexact Hc0
      · iexact Ht0
    isplitl [Hc1 Ht1]
    · iexists _; isplitl [Hc1]
      · iexact Hc1
      · iexact Ht1
    isplitl [Hc2 Ht2]
    · iexists _; isplitl [Hc2]
      · iexact Hc2
      · iexact Ht2
    iexists _; isplitl [Hc3]
    · iexact Hc3
    · iexact Ht3
  isplitl [Hf0 Hf1 Hf2 Hf3 Hz0 Hz1 Hz2 Hz3 Hv0 Hv1 Hv2 Hv3]
  · isplitl [Hf0 Hz0 Hv0]
    · isplitl [Hf0]
      · iexact Hf0
      · iexists _; isplitl [Hz0]
        · iexact Hz0
        · iexact Hv0
    isplitl [Hf1 Hz1 Hv1]
    · isplitl [Hf1]
      · iexact Hf1
      · iexists _; isplitl [Hz1]
        · iexact Hz1
        · iexact Hv1
    isplitl [Hf2 Hz2 Hv2]
    · isplitl [Hf2]
      · iexact Hf2
      · iexists _; isplitl [Hz2]
        · iexact Hz2
        · iexact Hv2
    isplitl [Hf3]
    · iexact Hf3
    · iexists _; isplitl [Hz3]
      · iexact Hz3
      · iexact Hv3
  iexists _; iexact HW

set_option maxHeartbeats 2000000 in
theorem runB (c : Dev nD) (t : Fin cfg0.N) (arg1 : Memref sig .tc .vmem S128x2x128 .f32) (harg1 : arg1.IsWhole) (arg2 : Memref sig .tc .vmem S128x1 .i32) (harg2 : arg2.IsWhole)
    (arg3 : Memref sig .tc .vmem S128x50 .i32) (harg3 : arg3.IsWhole) (arg5 : Memref sig .tc .vmem S1x1 .f32) (harg5 : arg5.IsWhole)
    (h0 : ¬condFirst (grid0.coords t)) (h1 : condMore (grid0.coords t)) (h2 : ¬condLast (grid0.coords t))
    (x0 : Vec F S128x2x128 .f32) (x1 : Vec F S128x1 .i32) (x2 : Vec F S128x50 .i32) (W : Held (F := F) c relM) (a : Vec F S1x128 .f32) (D : Waits sig Unit) (K : PUnit → sProp 𝕄) :
    iprop(owns (c : Thread nD τ) arg1 fullShare x0 ∗ owns (c : Thread nD τ) arg2 fullShare x1 ∗ owns (c : Thread nD τ) arg3 fullShare x2
        ∗ owns (c : Thread nD τ) accM fullShare a ∗ comeS c W (Ring.sl 2 t.val) (Ring.bk 32 t.val) ∗ restS c W (Ring.sl 2 (t.val + 1)) ∗ owes (c : Thread nD τ) 0 D
        ∗ (iprop(owns (c : Thread nD τ) arg1 fullShare x0 ∗ owns (c : Thread nD τ) arg2 fullShare x1 ∗ owns (c : Thread nD τ) arg3 fullShare x2
            ∗ owns (c : Thread nD τ) accM fullShare (step x0 x1 x2 (blockX c W (Ring.bk 32 t.val)) a) ∗ comeS c W (Ring.sl 2 (t.val + 1)) (Ring.bk 32 (t.val + 1)) ∗ restS c W (Ring.sl 2 t.val) ∗ ∃ D', owes (c : Thread nD τ) 0 D') -∗ K ⟨⟩))
      ⊢ wp frame (wpE (defs₀ (F := F)) Variants.none c none) Set.univ (cc0__duck_body (grid0.coords t) arg1 harg1 arg2 harg2 arg3 harg3 relM (Memref.isWhole_whole _) arg5 harg5 ringM (Memref.isWhole_whole _) accM (Memref.isWhole_whole _) cc0_scratch2) K := by
  haveI : Fact (¬condFirst (grid0.coords t)) := ⟨h0⟩
  haveI : Fact (condMore (grid0.coords t)) := ⟨h1⟩
  haveI : Fact (¬condLast (grid0.coords t)) := ⟨h2⟩
  simp only [cc0__duck_body_eq_skeleton]; unfold cc0__duck_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨⟨%g0, Hf0, Hr0⟩, ⟨%g1, Hf1, Hr1⟩, ⟨%g2, Hf2, Hr2⟩, ⟨%g3, Hf3, Hr3⟩⟩, ⟨⟨Hc0, ⟨%p0, Hp0, Hw0⟩⟩, ⟨Hc1, ⟨%p1, Hp1, Hw1⟩⟩, ⟨Hc2, ⟨%p2, Hp2, Hw2⟩⟩, ⟨Hc3, ⟨%p3, Hp3, Hw3⟩⟩⟩, HW, Hk⟩
  icases (src_split c W (Ring.sl 2 (t.val + 1)) 0 (Ring.bk 32 (t.val + 1))).1 $$ Hw0 with ⟨Hs0, Ht0⟩
  icases (src_split c W (Ring.sl 2 (t.val + 1)) 1 (Ring.bk 32 (t.val + 1))).1 $$ Hw1 with ⟨Hs1, Ht1⟩
  icases (src_split c W (Ring.sl 2 (t.val + 1)) 2 (Ring.bk 32 (t.val + 1))).1 $$ Hw2 with ⟨Hs2, Ht2⟩
  icases (src_split c W (Ring.sl 2 (t.val + 1)) 3 (Ring.bk 32 (t.val + 1))).1 $$ Hw3 with ⟨Hs3, Ht3⟩
  obtain rfl := harg1.eq_unread hf0; obtain rfl := harg2.eq_unread hf1; obtain rfl := harg3.eq_unread hf2
  obtain rfl := (Memref.isWhole_whole cc0_scratch1).eq_unread hf3
  sl_exec (disch := first | sl_exact h0 | sl_exact h1 | sl_exact h2)
  ihave Hslot := (BiEntails.of_eq (slot_landed c W (Ring.sl 2 t.val) (Ring.bk 32 t.val) g0 g1 g2 g3)).1 $$ [$Hf0_dst $Hf1_dst $Hf2_dst $Hf3_dst]
  sl_exec (disch := first | sl_exact h0 | sl_exact h1 | sl_exact h2)
  ihave Hparts := (BiEntails.of_eq (slot_back c (Ring.sl 2 t.val) (blockF c W (Ring.bk 32 t.val)))).1 $$ Hslot
  icases Hparts with ⟨Hz0, Hz1, Hz2, Hz3⟩
  ihave Hv0 := (src_split c W (Ring.sl 2 t.val) 0 (Ring.bk 32 t.val)).2 $$ [$Hf0_src $Hr0]
  ihave Hv1 := (src_split c W (Ring.sl 2 t.val) 1 (Ring.bk 32 t.val)).2 $$ [$Hf1_src $Hr1]
  ihave Hv2 := (src_split c W (Ring.sl 2 t.val) 2 (Ring.bk 32 t.val)).2 $$ [$Hf2_src $Hr2]
  ihave Hv3 := (src_split c W (Ring.sl 2 t.val) 3 (Ring.bk 32 t.val)).2 $$ [$Hf3_src $Hr3]
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr; swap
    · iexact H3
    · ipureintro
      refine (View.read_writes_full _ _ _ _ _).trans ?_
      exact ((step_of x0 x1 x2 (read_row0 harg1 x0) (read_row1 harg1 x0) (slot_load c W _ (off19_eq t) _) (read_nrc harg3 x2) (read_erc harg2 x1) (read_acc _ _)))
  isplitl [Hc0 Hc1 Hc2 Hc3 Ht0 Ht1 Ht2 Ht3]
  · isplitl [Hc0 Ht0]
    · iexists _; isplitl [Hc0]
      · iexact Hc0
      · iexact Ht0
    isplitl [Hc1 Ht1]
    · iexists _; isplitl [Hc1]
      · iexact Hc1
      · iexact Ht1
    isplitl [Hc2 Ht2]
    · iexists _; isplitl [Hc2]
      · iexact Hc2
      · iexact Ht2
    iexists _; isplitl [Hc3]
    · iexact Hc3
    · iexact Ht3
  isplitl [Hf0 Hf1 Hf2 Hf3 Hz0 Hz1 Hz2 Hz3 Hv0 Hv1 Hv2 Hv3]
  · isplitl [Hf0 Hz0 Hv0]
    · isplitl [Hf0]
      · iexact Hf0
      · iexists _; isplitl [Hz0]
        · iexact Hz0
        · iexact Hv0
    isplitl [Hf1 Hz1 Hv1]
    · isplitl [Hf1]
      · iexact Hf1
      · iexists _; isplitl [Hz1]
        · iexact Hz1
        · iexact Hv1
    isplitl [Hf2 Hz2 Hv2]
    · isplitl [Hf2]
      · iexact Hf2
      · iexists _; isplitl [Hz2]
        · iexact Hz2
        · iexact Hv2
    isplitl [Hf3]
    · iexact Hf3
    · iexists _; isplitl [Hz3]
      · iexact Hz3
      · iexact Hv3
  iexists _; iexact HW

set_option maxHeartbeats 2000000 in
theorem runC (c : Dev nD) (t : Fin cfg0.N) (arg1 : Memref sig .tc .vmem S128x2x128 .f32) (harg1 : arg1.IsWhole) (arg2 : Memref sig .tc .vmem S128x1 .i32) (harg2 : arg2.IsWhole)
    (arg3 : Memref sig .tc .vmem S128x50 .i32) (harg3 : arg3.IsWhole) (arg5 : Memref sig .tc .vmem S1x1 .f32) (harg5 : arg5.IsWhole)
    (h0 : ¬condFirst (grid0.coords t)) (h1 : ¬condMore (grid0.coords t)) (h2 : condLast (grid0.coords t))
    (x0 : Vec F S128x2x128 .f32) (x1 : Vec F S128x1 .i32) (x2 : Vec F S128x50 .i32) (W : Held (F := F) c relM) (a : Vec F S1x128 .f32) (D : Waits sig Unit) (K : PUnit → sProp 𝕄) :
    iprop(owns (c : Thread nD τ) arg1 fullShare x0 ∗ owns (c : Thread nD τ) arg2 fullShare x1 ∗ owns (c : Thread nD τ) arg3 fullShare x2
        ∗ (∃ o, owns (c : Thread nD τ) arg5 fullShare o) ∗ owns (c : Thread nD τ) accM fullShare a ∗ comeS c W (Ring.sl 2 t.val) (Ring.bk 32 t.val) ∗ owes (c : Thread nD τ) 0 D
        ∗ (iprop(owns (c : Thread nD τ) arg1 fullShare x0 ∗ owns (c : Thread nD τ) arg2 fullShare x1 ∗ owns (c : Thread nD τ) arg3 fullShare x2
            ∗ owns (c : Thread nD τ) arg5 fullShare (k0_pay1 (step x0 x1 x2 (blockX c W (Ring.bk 32 t.val)) a)) ∗ owns (c : Thread nD τ) accM fullShare (step x0 x1 x2 (blockX c W (Ring.bk 32 t.val)) a) ∗ restS c W (Ring.sl 2 t.val) ∗ ∃ D', owes (c : Thread nD τ) 0 D') -∗ K ⟨⟩))
      ⊢ wp frame (wpE (defs₀ (F := F)) Variants.none c none) Set.univ (cc0__duck_body (grid0.coords t) arg1 harg1 arg2 harg2 arg3 harg3 relM (Memref.isWhole_whole _) arg5 harg5 ringM (Memref.isWhole_whole _) accM (Memref.isWhole_whole _) cc0_scratch2) K := by
  haveI : Fact (¬condFirst (grid0.coords t)) := ⟨h0⟩
  haveI : Fact (¬condMore (grid0.coords t)) := ⟨h1⟩
  haveI : Fact (condLast (grid0.coords t)) := ⟨h2⟩
  simp only [cc0__duck_body_eq_skeleton]; unfold cc0__duck_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%o, %f5, %hf5, H5⟩, ⟨%f3, %hf3, H3⟩, ⟨⟨%g0, Hf0, Hr0⟩, ⟨%g1, Hf1, Hr1⟩, ⟨%g2, Hf2, Hr2⟩, ⟨%g3, Hf3, Hr3⟩⟩, HW, Hk⟩
  obtain rfl := harg1.eq_unread hf0; obtain rfl := harg2.eq_unread hf1; obtain rfl := harg3.eq_unread hf2
  obtain rfl := (Memref.isWhole_whole cc0_scratch1).eq_unread hf3
  obtain rfl := harg5.eq_unread hf5
  sl_exec (disch := first | sl_exact h0 | sl_exact h1 | sl_exact h2)
  ihave Hslot := (BiEntails.of_eq (slot_landed c W (Ring.sl 2 t.val) (Ring.bk 32 t.val) g0 g1 g2 g3)).1 $$ [$Hf0_dst $Hf1_dst $Hf2_dst $Hf3_dst]
  sl_exec (disch := first | sl_exact h0 | sl_exact h1 | sl_exact h2)
  ihave Hparts := (BiEntails.of_eq (slot_back c (Ring.sl 2 t.val) (blockF c W (Ring.bk 32 t.val)))).1 $$ Hslot
  icases Hparts with ⟨Hz0, Hz1, Hz2, Hz3⟩
  ihave Hv0 := (src_split c W (Ring.sl 2 t.val) 0 (Ring.bk 32 t.val)).2 $$ [$Hf0_src $Hr0]
  ihave Hv1 := (src_split c W (Ring.sl 2 t.val) 1 (Ring.bk 32 t.val)).2 $$ [$Hf1_src $Hr1]
  ihave Hv2 := (src_split c W (Ring.sl 2 t.val) 2 (Ring.bk 32 t.val)).2 $$ [$Hf2_src $Hr2]
  ihave Hv3 := (src_split c W (Ring.sl 2 t.val) 3 (Ring.bk 32 t.val)).2 $$ [$Hf3_src $Hr3]
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H5]
  · iexists _; isplitr; swap
    · iexact H5
    · ipureintro
      refine (View.read_writes_full _ _ _ _ _).trans ?_
      refine congrArg k0_pay1 (Eq.trans ?_ (step_of x0 x1 x2 (read_row0 harg1 x0) (read_row1 harg1 x0) (slot_load c W (Ring.bk 32 t.val) (off19_eq t) (k0_off19_inb (grid0.coords t))) (read_nrc harg3 x2) (read_erc harg2 x1) (read_acc a (Memref.isWhole_whole cc0_scratch1))))
      unfold runC.sl.v151
      exact View.readCov_full accM.view _ inb_S1x128_S1x128_0_0 _ []
  isplitl [H3]
  · iexists _; isplitr; swap
    · iexact H3
    · ipureintro
      refine (View.read_writes_full _ _ _ _ _).trans ?_
      exact ((step_of x0 x1 x2 (read_row0 harg1 x0) (read_row1 harg1 x0) (slot_load c W _ (off19_eq t) _) (read_nrc harg3 x2) (read_erc harg2 x1) (read_acc _ _)))
  isplitl [Hf0 Hf1 Hf2 Hf3 Hz0 Hz1 Hz2 Hz3 Hv0 Hv1 Hv2 Hv3]
  · isplitl [Hf0 Hz0 Hv0]
    · isplitl [Hf0]
      · iexact Hf0
      · iexists _; isplitl [Hz0]
        · iexact Hz0
        · iexact Hv0
    isplitl [Hf1 Hz1 Hv1]
    · isplitl [Hf1]
      · iexact Hf1
      · iexists _; isplitl [Hz1]
        · iexact Hz1
        · iexact Hv1
    isplitl [Hf2 Hz2 Hv2]
    · isplitl [Hf2]
      · iexact Hf2
      · iexists _; isplitl [Hz2]
        · iexact Hz2
        · iexact Hv2
    isplitl [Hf3]
    · iexact Hf3
    · iexists _; isplitl [Hz3]
      · iexact Hz3
      · iexact Hv3
  iexists _; iexact HW

end Cert.KernelIdeal.Duck

end
-- ==== Proof.KernelIdeal.Launch.lean ====
/- The launch around the region, for a body with transfers of its own: the host lines before and after it, its semaphores, and
   the operand that stays off the pipeline. -/
module

public import proofs.«01_k».proof.Proof.Gen.KernelIdeal.Frame
public import proofs.«01_k».proof.Proof.KernelIdeal.Run

@[expose] public section

set_option maxRecDepth 16384

noncomputable section

namespace Cert.KernelIdeal.Duck

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program reduces to its region, continued by the lines after it. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

abbrev Dats := (p : Fin 1) → (c : Dev nD) → Dat τ (Elt F) Unit ℕ (Pipeline.UD sig nD τ) ℕ (cfgs p) c

/-- The lines after the region write none of the arguments that no window stages. -/
theorem tail_keeps (dats : Dats (F := F)) (c : Dev nD) (b : Ref sig .tc) (hb : b = main_arg1 ∨ b = main_arg2) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, Finset.mem_singleton, Finset.mem_insert, not_or]
      rcases hb with rfl | rfl <;> (repeat' apply And.intro) <;> exact StableHlo.devRef_ne_of_ne (by decide))),
    Pipeline.withArrays_of_ne _ c (V0 m c) _ b (by rcases hb with rfl | rfl <;> exact (by decide))]

/-- An input's staging buffer holds its block at every point. -/
theorem staged {c : Dev nD} (dat : Dat τ (Elt F) Unit ℕ (Pipeline.UD sig nD τ) ℕ cfg0 c) (hA : ∀ w, dat.A w = V m c (Pipeline.arrRef spec0 w))
    (h0 : ∀ t, dat.after 0 t = iblk m c 0 t) (h1 : ∀ t, dat.after 1 t = iblk m c 1 t) (h2 : ∀ t, dat.after 2 t = iblk m c 2 t) (t : Fin cfg0.N) :
    (∀ d, dat.before 0 t d = iblk m c 0 t) ∧ (∀ d, dat.before 1 t d = iblk m c 1 t) ∧ (∀ d, dat.before 2 t d = iblk m c 2 t) := by
  refine ⟨fun d => ?_, fun d => ?_, fun d => ?_⟩
  · exact (dat.before_in_eq_fetched 0 rfl (fun _ => rfl) (fun _ _ _ => rfl) (fun t => by rw [h0]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [h1]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [h2]; unfold Dat.blockOf iblk; rw [hA]; try rfl) t d).trans
      (by unfold Dat.fetched Dat.blockOf iblk; rw [hA]; try rfl)

/-- A run of the region leaves the arguments as they were. -/
theorem args_kept (dats : Dats (F := F)) (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans ((tail_keeps m dats c main_arg1 (.inl rfl)).trans (V_main_arg1 m c))),
      (((h c).2 main_arg2 (Pipeline.mem_restRefs_of main_arg2 (by decide) (by decide))).trans ((tail_keeps m dats c main_arg2 (.inr rfl)).trans (V_main_arg2 m c))),
      ((h c).1 2).trans (((dats 0 c).arrAt_in 2 rfl _).trans ((hA c 2).trans (V_main_arg3 m c)))⟩) h

/-! ## The body's own semaphores, and the operand it moves itself -/

abbrev ownSem : Fin 8 → SemLoc sig := fun j => (![SemLoc.dma 7, SemLoc.dma 8, SemLoc.dma 9, SemLoc.dma 10, SemLoc.dma 11, SemLoc.dma 12, SemLoc.dma 13, SemLoc.dma 14] : Fin 8 → SemLoc sig) j
theorem ownSem_facts : Pipeline.OwnSemFacts spec0 ownSem := by decide
/-- Each is the semaphore of a part of a slot. -/
theorem ownSem_cell : ∀ (s : Fin 2) (w : Fin 4), cellR s w = ownSem ⟨4 * s.val + w.val, by have := s.isLt; have := w.isLt; omega⟩ := by decide +kernel
theorem ownSems_eq (c : Dev nD) :
    (Pipeline.ownSems0 (Ix := Unit) (Name := ℕ) (U := Pipeline.UD sig nD τ) (Lvl := ℕ) (Val := Elt F) (τ := τ) ownSem c : sProp 𝕄)
      = iprop(cellP c 0 0 ∗ cellP c 0 1 ∗ cellP c 0 2 ∗ cellP c 0 3 ∗ cellP c 1 0 ∗ cellP c 1 1 ∗ cellP c 1 2 ∗ cellP c 1 3) := by
  rw [Pipeline.ownSems0_eq_of_list c ownSem [0, 1, 2, 3, 4, 5, 6, 7] (by decide) (by decide)]
  simp only [cellP, ownSem_cell]; rfl
def offPipe : Finset (Ref sig .tc) := {main_arg1}
theorem offPipe_sub : offPipe ⊆ Pipeline.restRefs sig spec0 := by decide
theorem tail_but : ∀ ops ∈ ([hostOps1] : List (List (HloOp τ sig (Elt F)))), ∀ op ∈ ops,
    op.bufs ⊆ Pipeline.tailRefsBut sig Pipeline.Prefetch.none spec0 offPipe := by
  intro ops hops op hop
  simp only [List.mem_cons, List.mem_nil_iff, or_false] at hops
  rcases hops with rfl
  · refine Pipeline.sub_tailRefsBut Pipeline.Prefetch.none spec0 offPipe op ((List.forall_iff_forall_mem.mp hostOps1_sub) op hop) (fun j => j.elim0) ?_
    simp only [hostOps1, List.mem_cons, List.mem_nil_iff, or_false] at hop
    rcases hop with rfl
    all_goals intro b hb; simp only [offPipe, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem offPipe_eq (c : Dev nD) :
    (bigSep offPipe (fun b => ((c : Thread nD τ).loc b) ↦{fullShare} V m c b) : sProp 𝕄) = iprop(((c : Thread nD τ).loc main_arg1) ↦{fullShare} V m c main_arg1) := by
  rw [BI.bigSep_eq_bigSepL_of_eq [main_arg1] (by decide) (by decide)]; rfl
/-- What the region is handed, and hands back. -/
theorem handed_eq (c : Dev nD) :
    (Pipeline.ΦD ownSem spec0 offPipe (V m) c : sProp 𝕄)
      = iprop(((∃ f : Buf (Elt F) ((c : Thread nD τ).loc cc0_scratch0), ((c : Thread nD τ).loc cc0_scratch0) ↦{fullShare} f) ∗ (∃ a, owns (c : Thread nD τ) accM fullShare a)) ∗ (∃ r, prngReg c r)
          ∗ iprop(cellP c 0 0 ∗ cellP c 0 1 ∗ cellP c 0 2 ∗ cellP c 0 3 ∗ cellP c 1 0 ∗ cellP c 1 1 ∗ cellP c 1 2 ∗ cellP c 1 3)
          ∗ iprop(((c : Thread nD τ).loc main_arg1) ↦{fullShare} V m c main_arg1)) := by
  rw [Pipeline.ΦD_eq, scopedRest0_eq, ownSems_eq, offPipe_eq]; simp only [accM, owns_whole]; try rfl

/-! ## The ring at the start and at the end -/

section InOut
variable (c : Dev nD)
theorem parts_disjoint (b b' : Fin 2 × Fin 4) (h : b ≠ b') : Disjoint (partSet b.1 b.2) (partSet b'.1 b'.2) := by
  rw [Finset.disjoint_left]; intro i hi hi'
  rw [mem_partSet] at hi hi'
  exact h (Prod.ext (Fin.ext (by omega)) (Fin.ext (by omega)))
theorem parts_cover : Finset.univ.biUnion (fun b : Fin 2 × Fin 4 => partSet b.1 b.2) = Finset.univ := by
  ext i; rw [Finset.mem_biUnion]
  have h0 : (i 0).val < 2 := (i 0).isLt
  have h1 : (i 1).val < 128 := (i 1).isLt
  exact ⟨fun _ => Finset.mem_univ _, fun _ => ⟨(⟨(i 0).val, h0⟩, ⟨(i 1).val / 32, by omega⟩), Finset.mem_univ _, mem_partSet.mpr ⟨rfl, by dsimp only; omega, by dsimp only; omega⟩⟩⟩
theorem bigSep_eight {P : Fin 2 × Fin 4 → sProp 𝕄} :
    bigSep Finset.univ P = iprop(P (0, 0) ∗ P (0, 1) ∗ P (0, 2) ∗ P (0, 3) ∗ P (1, 0) ∗ P (1, 1) ∗ P (1, 2) ∗ P (1, 3)) :=
  bigSep_univ_eq_bigSepL [((0 : Fin 2), (0 : Fin 4)), (0, 1), (0, 2), (0, 3), (1, 0), (1, 1), (1, 2), (1, 3)] (by decide) (by decide) P
theorem buffer_in (f : Buf (Elt F) ((c : Thread nD τ).loc cc0_scratch0)) :
    (((c : Thread nD τ).loc cc0_scratch0) ↦{fullShare} f : sProp 𝕄)
      ⊢ iprop(partP c 0 0 f ∗ partP c 0 1 f ∗ partP c 0 2 f ∗ partP c 0 3 f ∗ partP c 1 0 f ∗ partP c 1 1 f ∗ partP c 1 2 f ∗ partP c 1 3 f) := by
  refine (BiEntails.of_eq ((Ring.pointsTo_blocks (ℓ := (c : Thread nD τ).loc cc0_scratch0) (fun b : Fin 2 × Fin 4 => partSet b.1 b.2) parts_disjoint parts_cover f).trans (bigSep_eight (F := F)))).1.trans ?_
  have e := fun s w => (partP_eq (F := F) c s w f).symm
  exact (BiEntails.of_eq (congrArg₂ _ (e 0 0) (congrArg₂ _ (e 0 1) (congrArg₂ _ (e 0 2) (congrArg₂ _ (e 0 3) (congrArg₂ _ (e 1 0) (congrArg₂ _ (e 1 1) (congrArg₂ _ (e 1 2) (e 1 3))))))))).1
theorem buffer_out (f₀ : Buf (Elt F) ((c : Thread nD τ).loc cc0_scratch0)) :
    iprop((∃ f, partP (F := F) c 0 0 f) ∗ (∃ f, partP (F := F) c 0 1 f) ∗ (∃ f, partP (F := F) c 0 2 f) ∗ (∃ f, partP (F := F) c 0 3 f) ∗ (∃ f, partP (F := F) c 1 0 f) ∗ (∃ f, partP (F := F) c 1 1 f) ∗ (∃ f, partP (F := F) c 1 2 f) ∗ (∃ f, partP (F := F) c 1 3 f))
      ⊢ iprop(∃ f : Buf (Elt F) ((c : Thread nD τ).loc cc0_scratch0), (((c : Thread nD τ).loc cc0_scratch0) ↦{fullShare} f : sProp 𝕄)) := by
  refine BIBase.Entails.trans ?_ (Ring.pointsTo_blocks_join_exists (ℓ := (c : Thread nD τ).loc cc0_scratch0) (fun b : Fin 2 × Fin 4 => partSet b.1 b.2) parts_disjoint parts_cover f₀)
  refine BIBase.Entails.trans ?_ (BiEntails.of_eq (bigSep_eight (F := F)).symm).1
  have e : ∀ s w, (iprop(∃ f, partP (F := F) c s w f) : sProp 𝕄) = iprop(∃ f, (((c : Thread nD τ).loc cc0_scratch0) ↦[partSet s w]{fullShare} f)) :=
    fun s w => congrArg _ (funext fun f => partP_eq (F := F) c s w f)
  exact (BiEntails.of_eq (congrArg₂ _ (e 0 0) (congrArg₂ _ (e 0 1) (congrArg₂ _ (e 0 2) (congrArg₂ _ (e 0 3) (congrArg₂ _ (e 1 0) (congrArg₂ _ (e 1 1) (congrArg₂ _ (e 1 2) (e 1 3))))))))).1

abbrev cellsP : sProp 𝕄 := iprop(cellP c 0 0 ∗ cellP c 0 1 ∗ cellP c 0 2 ∗ cellP c 0 3 ∗ cellP c 1 0 ∗ cellP c 1 1 ∗ cellP c 1 2 ∗ cellP c 1 3)
theorem ring_in (W : Held (F := F) c relM) :
    iprop((∃ f : Buf (Elt F) ((c : Thread nD τ).loc cc0_scratch0), ((c : Thread nD τ).loc cc0_scratch0) ↦{fullShare} f) ∗ cellsP c ∗ (((c : Thread nD τ).loc main_arg1) ↦{fullShare} W))
      ⊢ iprop(restS c W 0 ∗ restS c W 1) := by
  iintro ⟨⟨%f, HS⟩, ⟨C0, C1, C2, C3, C4, C5, C6, C7⟩, HW⟩
  ihave HP := (buffer_in (F := F) c f) $$ HS
  icases HP with ⟨P0, P1, P2, P3, P4, P5, P6, P7⟩
  ihave HX := (whole_split (F := F) c W).1 $$ HW
  icases HX with ⟨⟨⟨W0, W1⟩, ⟨W2, W3⟩⟩, ⟨⟨W4, W5⟩, ⟨W6, W7⟩⟩⟩
  isplitl [C0 P0 W0 C1 P1 W1 C2 P2 W2 C3 P3 W3]
  · isplitl [C0 P0 W0]
    · isplitl [C0]; · iexact C0
      iexists f; isplitl [P0]; · iexact P0
      iexact W0
    isplitl [C1 P1 W1]
    · isplitl [C1]; · iexact C1
      iexists f; isplitl [P1]; · iexact P1
      iexact W1
    isplitl [C2 P2 W2]
    · isplitl [C2]; · iexact C2
      iexists f; isplitl [P2]; · iexact P2
      iexact W2
    isplitl [C3]; · iexact C3
    iexists f; isplitl [P3]; · iexact P3
    iexact W3
  isplitl [C4 P4 W4]
  · isplitl [C4]; · iexact C4
    iexists f; isplitl [P4]; · iexact P4
    iexact W4
  isplitl [C5 P5 W5]
  · isplitl [C5]; · iexact C5
    iexists f; isplitl [P5]; · iexact P5
    iexact W5
  isplitl [C6 P6 W6]
  · isplitl [C6]; · iexact C6
    iexists f; isplitl [P6]; · iexact P6
    iexact W6
  isplitl [C7]; · iexact C7
  iexists f; isplitl [P7]; · iexact P7
  iexact W7

theorem ring_out (W : Held (F := F) c relM) :
    iprop(restS c W 0 ∗ restS c W 1)
      ⊢ iprop((∃ f : Buf (Elt F) ((c : Thread nD τ).loc cc0_scratch0), ((c : Thread nD τ).loc cc0_scratch0) ↦{fullShare} f) ∗ cellsP c ∗ (((c : Thread nD τ).loc main_arg1) ↦{fullShare} W)) := by
  iintro ⟨⟨⟨C0, ⟨%f0, P0, W0⟩⟩, ⟨C1, ⟨%f1, P1, W1⟩⟩, ⟨C2, ⟨%f2, P2, W2⟩⟩, ⟨C3, ⟨%f3, P3, W3⟩⟩⟩, ⟨⟨C4, ⟨%f4, P4, W4⟩⟩, ⟨C5, ⟨%f5, P5, W5⟩⟩, ⟨C6, ⟨%f6, P6, W6⟩⟩, ⟨C7, ⟨%f7, P7, W7⟩⟩⟩⟩
  isplitl [P0 P1 P2 P3 P4 P5 P6 P7]
  · iapply (buffer_out (F := F) c f0)
    isplitl [P0]; · iexists f0; iexact P0
    isplitl [P1]; · iexists f1; iexact P1
    isplitl [P2]; · iexists f2; iexact P2
    isplitl [P3]; · iexists f3; iexact P3
    isplitl [P4]; · iexists f4; iexact P4
    isplitl [P5]; · iexists f5; iexact P5
    isplitl [P6]; · iexists f6; iexact P6
    iexists f7; iexact P7
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  · iapply (whole_split (F := F) c W).2
    isplitl [W0 W1 W2 W3]
    · isplitl [W0 W1]
      · isplitl [W0]; · iexact W0
        iexact W1
      isplitl [W2]; · iexact W2
      iexact W3
    isplitl [W4 W5]
    · isplitl [W4]; · iexact W4
      iexact W5
    isplitl [W6]; · iexact W6
    iexact W7
end InOut

end Cert.KernelIdeal.Duck

end
-- ==== Proof.KernelIdeal.Frame.lean ====
/- The frame: what the region holds between points, the body at every point, and the program run to its end. -/
module

public import proofs.«01_k».proof.Proof.KernelIdeal.Launch
public import Idealize.ShloMosaic.Lib.Claim

@[expose] public section

set_option maxRecDepth 16384

noncomputable section

namespace Cert.KernelIdeal.Duck

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What is held between points -/

section Between
variable (c : Dev nD)

/-- The operand that is moved block by block. -/
abbrev relW : Held (F := F) c relM := V m c main_arg1
def pt (n : ℕ) : Fin cfg0.N := ⟨n % 32, lt_of_lt_of_eq (Nat.mod_lt _ (by decide)) N_0.symm⟩
theorem pt_val (t : Fin cfg0.N) : pt t.val = t := Fin.ext (Nat.mod_eq_of_lt (lt_of_lt_of_eq t.isLt (show cfg0.N = 32 from N_0)))
/-- The accumulator before point `n`, cleared at the first. -/
def acc : ℕ → Vec F S1x128 .f32
  | 0 => k0_pay11
  | n + 1 => step (iblk m c 0 (pt n)) (iblk m c 1 (pt n)) (iblk m c 2 (pt n)) (blockX c (relW m c) (Ring.bk 32 n)) (acc n)
theorem acc_succ (t : Fin cfg0.N) :
    acc m c (t.val + 1) = step (iblk m c 0 t) (iblk m c 1 t) (iblk m c 2 t) (blockX c (relW m c) (Ring.bk 32 t.val)) (acc m c t.val) := by
  rw [acc, pt_val]
def accAt (k : ℕ) : sProp 𝕄 := if k = 0 then iprop(∃ a, owns (c : Thread nD τ) accM fullShare a) else owns (c : Thread nD τ) accM fullShare (acc m c k)
def Phi (k : ℕ) : sProp 𝕄 := iprop(ringAt c (relW m c) k ∗ (∃ r, prngReg c r) ∗ accAt m c k)

theorem sl_two (k : ℕ) : Ring.sl 2 (k + 2) = Ring.sl 2 k := Fin.ext (by show (k + 2) % 2 = k % 2; omega)
theorem ringAt_more (W : Held (F := F) c relM) (k : ℕ) (h : k < 31) :
    ringAt c W (k + 1) = iprop(comeS c W (Ring.sl 2 (k + 1)) (Ring.bk 32 (k + 1)) ∗ restS c W (Ring.sl 2 k)) := by
  unfold ringAt; rw [if_neg (by omega), if_pos (by omega), show k + 1 + 1 = k + 2 from rfl, sl_two]
theorem ringAt_start (W : Held (F := F) c relM) (k : ℕ) (h : k = 0) :
    ringAt c W k = iprop(restS c W (Ring.sl 2 k) ∗ restS c W (Ring.sl 2 (k + 1))) := by
  subst h; rfl
theorem ringAt_here (W : Held (F := F) c relM) (k : ℕ) (h : k ≠ 0) (h' : k < 32) :
    ringAt c W k = iprop(comeS c W (Ring.sl 2 k) (Ring.bk 32 k) ∗ restS c W (Ring.sl 2 (k + 1))) := by
  unfold ringAt; rw [if_neg h, if_pos h']
theorem ringAt_stop (W : Held (F := F) c relM) (k : ℕ) (h : k = 31) :
    ringAt c W (k + 1) = iprop(restS c W (Ring.sl 2 (k + 1)) ∗ restS c W (Ring.sl 2 k)) := by
  subst h; rfl
end Between

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (acc m c (t.val + 1))
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay1 (acc m c (t.val + 1)) := by dsimp only [dats]
theorem before_0 (c : Dev nD) (t : Fin cfg0.N) : ∀ d, (dats m 0 c).before 0 t d = iblk m c 0 t := (staged m (dats m 0 c) (A_eq m c) (after_0 m c) (after_1 m c) (after_2 m c) t).1
theorem before_1 (c : Dev nD) (t : Fin cfg0.N) : ∀ d, (dats m 0 c).before 1 t d = iblk m c 1 t := (staged m (dats m 0 c) (A_eq m c) (after_0 m c) (after_1 m c) (after_2 m c) t).2.1
theorem before_2 (c : Dev nD) (t : Fin cfg0.N) : ∀ d, (dats m 0 c).before 2 t d = iblk m c 2 t := (staged m (dats m 0 c) (A_eq m c) (after_0 m c) (after_1 m c) (after_2 m c) t).2.2

theorem idle_3 : ∀ t : Fin cfg0.N, t.val ≠ 31 → cfg0.idle 3 (grid0.coords t) = true :=
  (by decide +kernel : ∀ t : Fin grid0.N, t.val ≠ 31 → idle0 3 (grid0.coords t) = true)
theorem live_3 : ∀ t : Fin cfg0.N, t.val = 31 → cfg0.idle 3 (grid0.coords t) = false :=
  (by decide +kernel : ∀ t : Fin grid0.N, t.val = 31 → idle0 3 (grid0.coords t) = false)
theorem quiet_3 (t : Fin cfg0.N) (h : t.val ≠ 31) : (cfg0.win 3).flush t = false := by
  have hN : t.val < 32 := lt_of_lt_of_eq t.isLt (show cfg0.N = 32 from N_0)
  exact Bool.eq_false_iff.mpr fun hf => h (by have := (flush0_3 t).mp hf; omega)

/-! ## The body at a point -/

abbrev mst0 (t : Fin cfg0.N) := win0_0.stage (cfg0.slots t 0)
abbrev mst1 (t : Fin cfg0.N) := win0_1.stage (cfg0.slots t 1)
abbrev mst2 (t : Fin cfg0.N) := win0_2.stage (cfg0.slots t 2)
abbrev mst3 (t : Fin cfg0.N) := win0_3.stage (cfg0.slots t 3)
def heldBefore (c : Dev nD) (t : Fin cfg0.N) : sProp 𝕄 :=
  iprop((dats m 0 c).Φ t.castSucc ∗ (dats m 0 c).owesAt () t.castSucc
    ∗ (∃ d, owns (c : Thread nD τ) (mst0 t) fullShare ((dats m 0 c).before 0 t d))
    ∗ (∃ d, owns (c : Thread nD τ) (mst1 t) fullShare ((dats m 0 c).before 1 t d))
    ∗ (∃ d, owns (c : Thread nD τ) (mst2 t) fullShare ((dats m 0 c).before 2 t d))
    ∗ (∃ d, owns (c : Thread nD τ) (mst3 t) fullShare ((dats m 0 c).before 3 t d)))
def heldAfter (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_0 (c : Dev nD) (t : Fin cfg0.N) : (dats m 0 c).leavesExact 0 t = owns (c : Thread nD τ) (mst0 t) fullShare (iblk m c 0 t) := by
  rw [← after_0 m c t]
theorem leaves_1 (c : Dev nD) (t : Fin cfg0.N) : (dats m 0 c).leavesExact 1 t = owns (c : Thread nD τ) (mst1 t) fullShare (iblk m c 1 t) := by
  rw [← after_1 m c t]
theorem leaves_2 (c : Dev nD) (t : Fin cfg0.N) : (dats m 0 c).leavesExact 2 t = owns (c : Thread nD τ) (mst2 t) fullShare (iblk m c 2 t) := by
  rw [← after_2 m c t]
theorem leaves_3 (c : Dev nD) (t : Fin cfg0.N) (h : t.val = 31) :
    (dats m 0 c).leavesExact 3 t = owns (c : Thread nD τ) (mst3 t) fullShare (k0_pay1 (acc m c (t.val + 1))) := by
  rw [← after_3 m c t]; unfold Dat.leavesExact; rw [live_3 t h]

set_option maxHeartbeats 1600000 in
theorem body_first (c : Dev nD) (t : Fin cfg0.N) (h : t.val = 0) :
    heldBefore m c t ⊢ wp frame (wpE (defs₀ (F := F)) Variants.none c none) Set.univ (bodyAt0 t) (fun _ => heldAfter m c t) := by
  unfold heldBefore heldAfter bodyAt0
  simp only [before_0, before_1, before_2]
  rw [leaves_0, leaves_1, leaves_2, Dat.leavesExact_idle (dats m 0 c) 3 t (idle_3 t (by omega)) (quiet_3 t (by omega)),
    show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi accAt
  rw [if_pos h, if_neg (Nat.succ_ne_zero _), acc_succ, ringAt_start c _ _ h, ringAt_more c _ _ (by omega), show acc m c t.val = k0_pay11 by rw [h]; rfl]
  iintro ⟨⟨⟨HR, HR'⟩, Hg, HA⟩, ⟨%D, -, HW⟩, ⟨%d0, H0⟩, ⟨%d1, H1⟩, ⟨%d2, H2⟩, ⟨%d3, H3⟩⟩
  iapply (runA c t _ _ _ _ _ _ (mst3 t) (hstage0_3 ((cfg0.slots t 3).cast nbuf0_3)) ((condFirst_iff t).mpr h) ((condMore_iff t).mpr (by omega)) (fun hl => by have := (condLast_iff t).mp hl; omega)
    (iblk m c 0 t) (iblk m c 1 t) (iblk m c 2 t) (relW m c) D _)
  isplitl [H0]; · iexact H0
  isplitl [H1]; · iexact H1
  isplitl [H2]; · iexact H2
  isplitl [HA]; · iexact HA
  isplitl [HR]; · iexact HR
  isplitl [HR']; · iexact HR'
  isplitl [HW]; · iexact HW
  iintro ⟨H0, H1, H2, HA, HC, HR, ⟨%D', HW⟩⟩
  isplitl [HC HR Hg HA]
  · isplitl [HC HR]
    · isplitl [HC]; · iexact HC
      iexact HR
    isplitl [Hg]; · iexact Hg
    iexact HA
  isplitl [HW]
  · iexists D'; isplitr; · ipureintro; exact fun _ _ => Or.inl trivial
    iexact HW
  isplitl [H0]; · iexact H0
  isplitl [H1]; · iexact H1
  isplitl [H2]; · iexact H2
  iexists _; iexact H3

set_option maxHeartbeats 1600000 in
theorem body_middle (c : Dev nD) (t : Fin cfg0.N) (h : t.val ≠ 0) (h' : t.val < 31) :
    heldBefore m c t ⊢ wp frame (wpE (defs₀ (F := F)) Variants.none c none) Set.univ (bodyAt0 t) (fun _ => heldAfter m c t) := by
  unfold heldBefore heldAfter bodyAt0
  simp only [before_0, before_1, before_2]
  rw [leaves_0, leaves_1, leaves_2, Dat.leavesExact_idle (dats m 0 c) 3 t (idle_3 t (by omega)) (quiet_3 t (by omega)),
    show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi accAt
  rw [if_neg h, if_neg (Nat.succ_ne_zero _), acc_succ, ringAt_here c _ _ h (by omega), ringAt_more c _ _ h']
  iintro ⟨⟨⟨HC, HR⟩, Hg, HA⟩, ⟨%D, -, HW⟩, ⟨%d0, H0⟩, ⟨%d1, H1⟩, ⟨%d2, H2⟩, ⟨%d3, H3⟩⟩
  iapply (runB c t _ _ _ _ _ _ (mst3 t) (hstage0_3 ((cfg0.slots t 3).cast nbuf0_3)) (fun hl => h ((condFirst_iff t).mp hl)) ((condMore_iff t).mpr h') (fun hl => by have := (condLast_iff t).mp hl; omega)
    (iblk m c 0 t) (iblk m c 1 t) (iblk m c 2 t) (relW m c) (acc m c t.val) D _)
  isplitl [H0]; · iexact H0
  isplitl [H1]; · iexact H1
  isplitl [H2]; · iexact H2
  isplitl [HA]; · iexact HA
  isplitl [HC]; · iexact HC
  isplitl [HR]; · iexact HR
  isplitl [HW]; · iexact HW
  iintro ⟨H0, H1, H2, HA, HC, HR, ⟨%D', HW⟩⟩
  isplitl [HC HR Hg HA]
  · isplitl [HC HR]
    · isplitl [HC]; · iexact HC
      iexact HR
    isplitl [Hg]; · iexact Hg
    iexact HA
  isplitl [HW]
  · iexists D'; isplitr; · ipureintro; exact fun _ _ => Or.inl trivial
    iexact HW
  isplitl [H0]; · iexact H0
  isplitl [H1]; · iexact H1
  isplitl [H2]; · iexact H2
  iexists _; iexact H3

set_option maxHeartbeats 1600000 in
theorem body_last (c : Dev nD) (t : Fin cfg0.N) (h : t.val = 31) :
    heldBefore m c t ⊢ wp frame (wpE (defs₀ (F := F)) Variants.none c none) Set.univ (bodyAt0 t) (fun _ => heldAfter m c t) := by
  unfold heldBefore heldAfter bodyAt0
  simp only [before_0, before_1, before_2]
  rw [leaves_0, leaves_1, leaves_2, leaves_3 m c t h,
    show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi accAt
  rw [if_neg (show ¬t.val = 0 by omega), if_neg (Nat.succ_ne_zero _), acc_succ, ringAt_here c _ _ (by omega) (by omega), ringAt_stop c _ _ h]
  iintro ⟨⟨⟨HC, HR⟩, Hg, HA⟩, ⟨%D, -, HW⟩, ⟨%d0, H0⟩, ⟨%d1, H1⟩, ⟨%d2, H2⟩, ⟨%d3, H3⟩⟩
  iapply (runC c t _ _ _ _ _ _ (mst3 t) (hstage0_3 ((cfg0.slots t 3).cast nbuf0_3)) (fun hl => by have := (condFirst_iff t).mp hl; omega) (fun hl => by have := (condMore_iff t).mp hl; omega) ((condLast_iff t).mpr h)
    (iblk m c 0 t) (iblk m c 1 t) (iblk m c 2 t) (relW m c) (acc m c t.val) D _)
  isplitl [H0]; · iexact H0
  isplitl [H1]; · iexact H1
  isplitl [H2]; · iexact H2
  isplitl [H3]; · iexists _; iexact H3
  isplitl [HA]; · iexact HA
  isplitl [HC]; · iexact HC
  isplitl [HW]; · iexact HW
  iintro ⟨H0, H1, H2, H3, HA, HC, ⟨%D', HW⟩⟩
  isplitl [HC HR Hg HA]
  · isplitl [HC HR]
    · isplitl [HR]; · iexact HR
      iexact HC
    isplitl [Hg]; · iexact Hg
    iexact HA
  isplitl [HW]
  · iexists D'; isplitr; · ipureintro; exact fun _ _ => Or.inl trivial
    iexact HW
  isplitl [H0]; · iexact H0
  isplitl [H1]; · iexact H1
  isplitl [H2]; · iexact H2
  iexact H3

theorem body_at (c : Dev nD) (t : Fin cfg0.N) :
    heldBefore m c t ⊢ wp frame (wpE (defs₀ (F := F)) Variants.none c none) Set.univ (bodyAt0 t) (fun _ => heldAfter m c t) := by
  have hN : t.val < 32 := lt_of_lt_of_eq t.isLt (show cfg0.N = 32 from N_0)
  by_cases h : t.val = 0
  · exact body_first m c t h
  · by_cases h' : t.val < 31
    · exact body_middle m c t h h'
    · exact body_last m c t (by omega)

theorem row_eq (t : Fin cfg0.N) : defs₀ (F := F) .tc cfg0.body (cfg0.bodyArgs t (cfg0.slots t)) = bodyAt0 (F := F) t := by
  unfold defs₀; rw [Defs.onTc_tc]

theorem bodies (c : Dev nD) : BodyObligation (dats (F := F) m 0 c) (defs₀ (F := F)) Variants.none () Set.univ := fun t => by
  rw [bigSep_W0, bigSep_W0, row_eq]
  exact triple_restated (body_at m c t) rfl .rfl fun _ => .rfl

/-! ## Into the region and out of it -/

theorem into (c : Dev nD) : Pipeline.ΦD ownSem spec0 offPipe (V m) c ⊢ (dats m 0 c).Φ 0 := by
  rw [show (dats m 0 c).Φ 0 = Phi m c 0 from rfl, handed_eq]
  unfold Phi accAt ringAt
  rw [if_pos rfl, if_pos rfl]
  iintro ⟨⟨HS, HA⟩, Hg, HC, HW⟩
  isplitl [HS HC HW]
  · iapply (ring_in (F := F) c (relW m c))
    isplitl [HS]; · iexact HS
    isplitl [HC]; · iexact HC
    iexact HW
  isplitl [Hg]; · iexact Hg
  iexact HA
theorem outof (c : Dev nD) : (dats m 0 c).Φ (Fin.last cfg0.N) ⊢ Pipeline.ΦD ownSem spec0 offPipe (V m) c := by
  rw [show (dats m 0 c).Φ (Fin.last cfg0.N) = Phi m c grid0.N from rfl, show grid0.N = 32 by rw [N_0], handed_eq]
  unfold Phi accAt ringAt
  rw [if_neg (by decide), if_neg (by decide), if_neg (by decide)]
  iintro ⟨HR, Hg, HA⟩
  ihave HX := (ring_out (F := F) c (relW m c)) $$ HR
  icases HX with ⟨HS, HC, HW⟩
  isplitl [HS HA]
  · isplitl [HS]; · iexact HS
    iexists _; iexact HA
  isplitl [Hg]; · iexact Hg
  isplitl [HC]; · iexact HC
  iexact HW

/-! ## The run -/

set_option backward.isDefEq.respectTransparency.types false in
set_option maxHeartbeats 800000 in
theorem run_whole : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 ownSem defs₀ Variants.none ownSem_facts offPipe offPipe_sub m ρ main
    (hbody := fun c => (bodies m c).loose) (hshare := fun c => (dats m 0 c).share_full fun _ => rfl)
    (howed := fun _ _ => rfl) (V₀ := V0 m) (opss := [hostOps1]) (hsub := tail_but) (hfresh := sfx_fresh) (hkeep := sfx_keeps)
    (hmain := main_around m Variants.none) (hA := A_eq m) (hin := into m) (hout := outof m)

theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_whole m ρ)

/-- Every run ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (args_kept m ρ (dats m) (A_eq m) (run_post m ρ)) ((θ_run defs _ _).mono (fun _ h => h.2) (run_whole m ρ))

end Cert.KernelIdeal.Duck

end
-- ==== Proof.Frames.lean ====
/- The claims about running and about the named constants, each read off the run of its program. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import Idealize.ShloMosaic.Adequacy
public import Idealize.ShloMosaic.Init

@[expose] public section

noncomputable section

namespace Cert.Proof

open Idealize.ShloMosaic Idealize.SL.Sem

theorem quiescent_kernel : Cert.quiescent_Kernel := fun m g _ => Cert.Kernel.Duck.frame m g
theorem quiescent_kernelIdeal : Cert.quiescent_KernelIdeal := fun m g _ => Cert.KernelIdeal.Duck.frame m g
/-- The reference has no semaphore, and its run says the rest. -/
theorem quiescent_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem preserves : Cert.preserves_Kernel_KernelIdeal :=
  ⟨IdealRules.named_const.statement _ "log2e" .f32 _ _ rfl, IdealRules.named_const.statement _ "two_gamma_log2e" .f32 _ _ rfl⟩

end Cert.Proof

end
-- ==== Proof.Value.Real.lean ====
/- The mathematics over the extended reals, apart from any program: the kernel's form of the two softplus values, in base
   two, is the reference's, in natural logarithms, at every extended real. -/
module

public import Idealize.ShloMosaic.PureOps.Ideal

@[expose] public section

noncomputable section

namespace Cert.Duck

open Idealize.ShloMosaic

/-- The size of an extended real. -/
abbrev mag (x : EReal) : EReal := max x (-x)
/-- `1 / log 2`. -/
abbrev perLog : ℝ := (Real.log 2)⁻¹

theorem perLog_pos : 0 < perLog := inv_pos.mpr (Real.log_pos one_lt_two)

theorem coe_max (a b : ℝ) : ((max a b : ℝ) : EReal) = max (a : EReal) b := EReal.coe_strictMono.monotone.map_max
theorem exp_bot : Ideal.exp ⊥ = 0 := rfl
theorem exp_top : Ideal.exp ⊤ = ⊤ := rfl
theorem log_top : Ideal.log ⊤ = ⊤ := rfl
theorem one_add_top : (1 : EReal) + ⊤ = ⊤ := rfl
theorem coe_mag (r : ℝ) : mag (r : EReal) = ((max r (-r) : ℝ) : EReal) := by rw [coe_max, EReal.coe_neg]

/-! ## Constants -/

/-- The offset `2 gamma`, to fourteen digits. -/
abbrev twoGamma : ℝ := 649887063340739 / 562949953421312
theorem word_gamma : Ideal.ofBits .f32 0x3F93C468#32 + Ideal.ofBits .f32 0xB264127A#32 = (twoGamma : EReal) := by
  simp [Ideal.ofBits, Ideal.ieee]; norm_cast; norm_num
theorem word_neg_one : Ideal.ofBits .f32 0xBF800000#32 = -1 := by
  simp [Ideal.ofBits, Ideal.ieee]; norm_cast; norm_num
theorem word_one : Ideal.ofBits .f32 0x3F800000#32 = 1 := by
  simp [Ideal.ofBits, Ideal.ieee]; norm_cast; norm_num
theorem word_half : Ideal.ofBits .f32 0x3F000000#32 = ((1 / 2 : ℝ) : EReal) := by
  simp [Ideal.ofBits, Ideal.ieee]; norm_cast; norm_num
/-- The least number a logarithm is taken of. -/
abbrev eps : EReal := Ideal.ofBits .f32 0x29E12E13#32
theorem eps_pos : 0 < eps := by
  simp [eps, Ideal.ofBits, Ideal.ieee]; norm_cast; norm_num
theorem div_one (x : EReal) : Ideal.div x 1 = x := by
  unfold Ideal.div; rw [if_neg one_ne_zero, inv_one, mul_one]
theorem absf_eq (x : EReal) : FloatOps.absf (F := Ideal) (φ := .f32) x = mag x := rfl

/-! ## Base two -/

theorem exp2_perLog (x : EReal) : Ideal.exp2 (x * (perLog : EReal)) = Ideal.exp x := by
  induction x with
  | bot => rw [EReal.bot_mul_coe_of_pos perLog_pos]; rfl
  | top => rw [EReal.top_mul_coe_of_pos perLog_pos]; rfl
  | coe r =>
    rw [← EReal.coe_mul]
    show ((Real.rpow 2 (r * perLog) : ℝ) : EReal) = (Real.exp r : EReal)
    congr 1
    show (2 : ℝ) ^ (r * perLog) = _
    rw [Real.rpow_def_of_pos two_pos]
    congr 1
    have : Real.log 2 ≠ 0 := (Real.log_pos one_lt_two).ne'
    unfold perLog; field_simp
theorem perLog_nonneg : (0 : EReal) ≤ (perLog : EReal) := by exact_mod_cast perLog_pos.le
theorem add_perLog (x y : EReal) : x * (perLog : EReal) + y * (perLog : EReal) = (x + y) * (perLog : EReal) :=
  (EReal.right_distrib_of_nonneg_of_ne_top perLog_nonneg (EReal.coe_ne_top _) x y).symm
theorem neg_perLog (x : EReal) : -(x * (perLog : EReal)) = -x * (perLog : EReal) := (EReal.neg_mul _ _).symm
theorem sub_perLog (x y : EReal) : x * (perLog : EReal) - y * (perLog : EReal) = (x - y) * (perLog : EReal) := by
  rw [sub_eq_add_neg, neg_perLog, add_perLog, ← sub_eq_add_neg]
theorem mono_perLog : Monotone fun x : EReal => x * (perLog : EReal) := fun _ _ h => mul_le_mul_of_nonneg_right h perLog_nonneg
theorem max_perLog (x y : EReal) : max (x * (perLog : EReal)) (y * (perLog : EReal)) = max x y * (perLog : EReal) := (mono_perLog.map_max).symm
theorem min_perLog (x y : EReal) : min (x * (perLog : EReal)) (y * (perLog : EReal)) = min x y * (perLog : EReal) := (mono_perLog.map_min).symm
theorem mag_perLog (x : EReal) : mag (x * (perLog : EReal)) = mag x * (perLog : EReal) := by
  unfold mag; rw [neg_perLog, max_perLog]
theorem exp2_neg_mag (x : EReal) : Ideal.exp2 (0 - mag (x * (perLog : EReal))) = Ideal.exp (-mag x) := by
  rw [mag_perLog, zero_sub, neg_perLog, exp2_perLog]

/-! ## Extended reals with a real part -/

theorem sub_shift (x y : EReal) (c : ℝ) : (x + (c : EReal)) - (y + (c : EReal)) = x - y := by
  induction x <;> induction y <;> first
    | rfl
    | (simp only [← EReal.coe_add, ← EReal.coe_sub]; congr 1; ring)
    | simp [← EReal.coe_add]
theorem max_shift (x y : EReal) (c : ℝ) : max (x + (c : EReal)) (y + (c : EReal)) = max x y + (c : EReal) :=
  (Monotone.map_max (f := fun x : EReal => x + (c : EReal)) fun _ _ h => add_le_add_left h _).symm
theorem mag_neg_sub (x y : EReal) : mag (-x - -y) = mag (x - y) := by
  induction x <;> induction y <;> first
    | rfl
    | (simp only [← EReal.coe_neg, ← EReal.coe_sub, coe_mag]; congr 1; rw [max_comm]; congr 1 <;> ring)
    | simp [mag]
theorem regroup (x y : EReal) (c a b : ℝ) :
    (x - (a : EReal)) - (y + (b : EReal)) - (c : EReal) = (x - (y + (c : EReal))) - ((a + b : ℝ) : EReal) := by
  induction x <;> induction y <;> first
    | rfl
    | (simp only [← EReal.coe_add, ← EReal.coe_sub]; congr 1; ring)
    | simp [← EReal.coe_add]

/-- `exp` of minus a size is a real number of the unit interval. -/
theorem exp_neg_mag (x : EReal) : ∃ r : ℝ, 0 ≤ r ∧ Ideal.exp (-mag x) = (r : EReal) := by
  induction x with
  | bot => exact ⟨0, le_rfl, rfl⟩
  | top => exact ⟨0, le_rfl, rfl⟩
  | coe r =>
    refine ⟨Real.exp (-max r (-r)), (Real.exp_pos _).le, ?_⟩
    rw [coe_mag, ← EReal.coe_neg]; rfl

theorem log_coe {r : ℝ} (h : 0 < r) : Ideal.log (r : EReal) = (Real.log r : EReal) := by
  show (if r ≤ 0 then ⊥ else (Real.log r : EReal)) = _
  rw [if_neg (not_le.mpr h)]

/-! ## Softplus -/

/-- `log (1 + exp x)`. -/
def softplus (x : EReal) : EReal := Ideal.log (1 + Ideal.exp x)

/-- The reference's `log (exp x + exp y)`, from its larger argument. -/
def logAddExp (x y : EReal) : EReal := max x y + Ideal.log1p (Ideal.exp (-mag (x - y)))

theorem logAddExp_zero (x : EReal) : logAddExp x 0 = softplus x := by
  unfold logAddExp softplus Ideal.log1p
  induction x with
  | bot =>
    rw [show -mag ((⊥ : EReal) - 0) = ⊥ by simp [mag], exp_bot, add_zero, ← EReal.coe_one, log_coe one_pos]; simp
  | top =>
    rw [show -mag ((⊤ : EReal) - 0) = ⊥ by simp [mag], exp_bot, exp_top, one_add_top, log_top, add_zero, ← EReal.coe_one, log_coe one_pos]; simp
  | coe r =>
    have e : -mag ((r : EReal) - 0) = ((-max r (-r) : ℝ) : EReal) := by rw [sub_zero, coe_mag, EReal.coe_neg]
    rw [e, show Ideal.exp ((-max r (-r) : ℝ) : EReal) = ((Real.exp (-max r (-r)) : ℝ) : EReal) from rfl,
      show Ideal.exp (r : EReal) = ((Real.exp r : ℝ) : EReal) from rfl, ← EReal.coe_one, ← EReal.coe_add, ← EReal.coe_add,
      log_coe (by positivity), log_coe (by positivity), ← EReal.coe_zero, ← coe_max, ← EReal.coe_add]
    congr 1
    rcases le_total 0 r with h | h
    · rw [max_eq_left h, max_eq_left (by linarith), show 1 + Real.exp r = Real.exp r * (1 + Real.exp (-r)) by
        rw [mul_add, ← Real.exp_add]; simp; ring, Real.log_mul (Real.exp_ne_zero _) (by positivity), Real.log_exp]
    · rw [max_eq_right h, max_eq_right (by linarith), neg_neg, zero_add]

/-- A softplus moved by a real logarithm. -/
theorem softplus_sub_log (x : EReal) (d : ℝ) (h : 0 < d) :
    Ideal.log ((d : EReal) + Ideal.exp x) - (Real.log d : EReal) = softplus (x - (Real.log d : EReal)) := by
  unfold softplus
  induction x with
  | bot =>
    rw [show Ideal.exp ⊥ = 0 from rfl, show (⊥ : EReal) - (Real.log d : EReal) = ⊥ from rfl, show Ideal.exp ⊥ = 0 from rfl, add_zero, add_zero,
      log_coe h, ← EReal.coe_one, log_coe one_pos, ← EReal.coe_sub]
    simp
  | top =>
    rw [show (⊤ : EReal) - (Real.log d : EReal) = ⊤ from rfl, exp_top, one_add_top, show (d : EReal) + ⊤ = ⊤ from rfl, log_top]; rfl
  | coe r =>
    rw [← EReal.coe_sub, show Ideal.exp (r : EReal) = ((Real.exp r : ℝ) : EReal) from rfl,
      show Ideal.exp ((r - Real.log d : ℝ) : EReal) = ((Real.exp (r - Real.log d) : ℝ) : EReal) from rfl,
      ← EReal.coe_one, ← EReal.coe_add, ← EReal.coe_add, log_coe (by positivity), log_coe (by positivity), ← EReal.coe_sub]
    congr 1
    rw [Real.exp_sub, Real.exp_log h, show d + Real.exp r = d * (1 + Real.exp r / d) by field_simp, Real.log_mul h.ne' (by positivity)]
    ring

/-! ## The two sides -/

section Sides
variable (c : ℝ)

/-- The reference's side of a relation box, less the offset, and of its intersection with an entity box. -/
def sideRel (rl rr : EReal) : EReal := rr - rl - (c : EReal)
def sideInter (el er rl rr : EReal) : EReal := -1 * logAddExp (-er) (-rr) - logAddExp el rl - (c : EReal)

/-- The kernel's softplus of the relation box's side. -/
def twoRel (rl rr : EReal) : EReal := Ideal.log (1 + Ideal.exp2 (rr * (perLog : EReal) - (rl * (perLog : EReal) + ((c * perLog : ℝ) : EReal))))
/-- The kernel's product of the two correction terms. -/
def twoDen (el er rl rr : EReal) : EReal :=
  (1 + Ideal.exp2 (0 - mag (er * (perLog : EReal) - rr * (perLog : EReal))))
    * (1 + Ideal.exp2 (0 - mag ((el * (perLog : EReal) + ((c * perLog : ℝ) : EReal)) - (rl * (perLog : EReal) + ((c * perLog : ℝ) : EReal)))))
/-- The kernel's softplus of the intersection's side. -/
def twoInter (el er rl rr : EReal) : EReal :=
  Ideal.log (twoDen c el er rl rr
      + Ideal.exp2 (min (er * (perLog : EReal)) (rr * (perLog : EReal)) - max (el * (perLog : EReal) + ((c * perLog : ℝ) : EReal)) (rl * (perLog : EReal) + ((c * perLog : ℝ) : EReal))))
    - Ideal.log (twoDen c el er rl rr)

theorem shifted (x : EReal) : x * (perLog : EReal) + ((c * perLog : ℝ) : EReal) = (x + (c : EReal)) * (perLog : EReal) := by
  rw [EReal.coe_mul, add_perLog]
theorem sub_sub_real (x y : EReal) : x - (y + (c : EReal)) = x - y - (c : EReal) := by
  induction x <;> induction y <;> first
    | rfl
    | (simp only [← EReal.coe_add, ← EReal.coe_sub]; congr 1; ring)
    | simp [← EReal.coe_add]

theorem twoRel_eq (rl rr : EReal) : twoRel c rl rr = softplus (sideRel c rl rr) := by
  unfold twoRel softplus sideRel
  rw [shifted, sub_perLog, exp2_perLog, sub_sub_real]

theorem neg_one_mul_add (x y : EReal) (a : ℝ) : -1 * (max (-x) (-y) + (a : EReal)) = min x y - (a : EReal) := by
  have h : max (-x) (-y) = -min x y := (EReal.neg_strictAnti.antitone.map_min).symm
  rw [h]
  generalize min x y = z
  induction z with
  | bot => simp
  | top => simp
  | coe r =>
    rw [show (-1 : EReal) = ((-1 : ℝ) : EReal) by rw [EReal.coe_neg, EReal.coe_one], ← EReal.coe_neg, ← EReal.coe_add, ← EReal.coe_mul, ← EReal.coe_sub]
    congr 1; ring

theorem twoInter_eq (el er rl rr : EReal) : twoInter c el er rl rr = softplus (sideInter c el er rl rr) := by
  unfold twoInter twoDen sideInter logAddExp Ideal.log1p
  simp only [shifted, sub_perLog, exp2_neg_mag, min_perLog, max_perLog, exp2_perLog, sub_shift, max_shift, mag_neg_sub]
  obtain ⟨p, hp, ep⟩ := exp_neg_mag (er - rr)
  obtain ⟨q, hq, eq⟩ := exp_neg_mag (el - rl)
  have hp' : (0 : ℝ) < 1 + p := by positivity
  have hq' : (0 : ℝ) < 1 + q := by positivity
  simp only [ep, eq, ← EReal.coe_one, ← EReal.coe_add, ← EReal.coe_mul, log_coe hp', log_coe hq', log_coe (mul_pos hp' hq')]
  rw [softplus_sub_log _ _ (mul_pos hp' hq'), EReal.coe_one, neg_one_mul_add, regroup, Real.log_mul hp'.ne' hq'.ne']

end Sides

/-! ## The logarithms and their sums -/

theorem log_ne_bot {x : EReal} (h : 0 < x) : Ideal.log x ≠ ⊥ := by
  induction x with
  | bot => exact absurd h (by simp)
  | top => exact fun e => nomatch (e : (⊤ : EReal) = ⊥)
  | coe r => rw [log_coe (by exact_mod_cast h)]; exact EReal.coe_ne_bot _
theorem log_mul {x y : EReal} (hx : 0 < x) (hy : 0 < y) : Ideal.log (x * y) = Ideal.log x + Ideal.log y := by
  induction x with
  | bot => exact absurd hx (by simp)
  | top =>
    rw [EReal.top_mul_of_pos hy, show Ideal.log ⊤ = ⊤ from rfl, EReal.top_add_of_ne_bot (log_ne_bot hy)]
  | coe r =>
    have hr : 0 < r := by exact_mod_cast hx
    induction y with
    | bot => exact absurd hy (by simp)
    | top => rw [EReal.mul_top_of_pos hx, show Ideal.log ⊤ = ⊤ from rfl, EReal.add_top_of_ne_bot (log_ne_bot hx)]
    | coe s =>
      have hs : 0 < s := by exact_mod_cast hy
      rw [← EReal.coe_mul, log_coe (mul_pos hr hs), log_coe hr, log_coe hs, ← EReal.coe_add, Real.log_mul hr.ne' hs.ne']
theorem softplus_nonneg (x : EReal) : 0 ≤ softplus x := by
  unfold softplus
  induction x with
  | bot => rw [show Ideal.exp ⊥ = 0 from rfl, add_zero, ← EReal.coe_one, log_coe one_pos]; simp
  | top => rw [exp_top, one_add_top, log_top]; exact le_top
  | coe r =>
    rw [show Ideal.exp (r : EReal) = ((Real.exp r : ℝ) : EReal) from rfl, ← EReal.coe_one, ← EReal.coe_add, log_coe (by positivity)]
    exact_mod_cast Real.log_nonneg (by linarith [Real.exp_pos r])

theorem neg_add_of_ne_bot {x y : EReal} (hx : x ≠ ⊥) (hy : y ≠ ⊥) : -(x + y) = -x + -y := by
  rw [EReal.neg_add (.inl hx) (.inr hy), sub_eq_add_neg]
theorem sum_ne_bot {ι : Type} (s : Finset ι) (f : ι → EReal) (h : ∀ i, f i ≠ ⊥) : ∑ i ∈ s, f i ≠ ⊥ := by
  classical
  induction s using Finset.induction_on with
  | empty => simp
  | insert a s ha ih => rw [Finset.sum_insert ha]; exact EReal.add_ne_bot_iff.mpr ⟨h a, ih⟩
theorem neg_sum {ι : Type} (s : Finset ι) (f : ι → EReal) (h : ∀ i, f i ≠ ⊥) : -∑ i ∈ s, f i = ∑ i ∈ s, -f i := by
  classical
  induction s using Finset.induction_on with
  | empty => simp
  | insert a s ha ih => rw [Finset.sum_insert ha, Finset.sum_insert ha, neg_add_of_ne_bot (h a) (sum_ne_bot s f h), ih]
/-- A difference of sums is the sum of the differences, where nothing subtracted is minus infinity. -/
theorem sum_sub_sum {ι : Type} (s : Finset ι) (f g : ι → EReal) (h : ∀ i, g i ≠ ⊥) : ∑ i ∈ s, f i - ∑ i ∈ s, g i = ∑ i ∈ s, (f i - g i) := by
  rw [sub_eq_add_neg, neg_sum s g h, ← Finset.sum_add_distrib]; rfl
/-- A difference of the logarithms of two products is the sum of two differences. -/
theorem log_pair {a b c d : EReal} (ha : 0 < a) (hb : 0 < b) (hc : 0 < c) (hd : 0 < d) :
    Ideal.log (a * b) - Ideal.log (c * d) = (Ideal.log a - Ideal.log c) + (Ideal.log b - Ideal.log d) := by
  rw [log_mul ha hb, log_mul hc hd, sub_eq_add_neg, neg_add_of_ne_bot (log_ne_bot hc) (log_ne_bot hd), sub_eq_add_neg, sub_eq_add_neg]
  exact add_add_add_comm _ _ _ _
theorem log_one : Ideal.log 1 = 0 := by rw [← EReal.coe_one, log_coe one_pos]; simp

/-! ## What one entry contributes -/

theorem softplus_def (x : EReal) : max x 0 + Ideal.log1p (Ideal.exp (-mag x)) = softplus x := by
  rw [← logAddExp_zero, logAddExp, sub_zero]
theorem logAddExp_def (x y : EReal) : max x y + Ideal.log1p (Ideal.exp (-mag (x - y))) = logAddExp x y := rfl

/-- The side of the relation box, and of its intersection with the entity box, as a logarithm is taken of it. -/
def argRel (rl rr : EReal) : EReal := softplus (sideRel twoGamma rl rr) + eps
def argInter (el er rl rr : EReal) : EReal := softplus (sideInter twoGamma el er rl rr) + eps
theorem argRel_pos (rl rr : EReal) : 0 < argRel rl rr := lt_of_lt_of_le eps_pos (le_add_of_nonneg_left (softplus_nonneg _))
theorem argInter_pos (el er rl rr : EReal) : 0 < argInter el er rl rr := lt_of_lt_of_le eps_pos (le_add_of_nonneg_left (softplus_nonneg _))

/-- A row counts where its entity has a relation, a neighbor where the neighbor has one. -/
def On (e n : BitVec 32) : Prop := IntOp.cmpi .sge e 1#32 = 1#1 ∧ IntOp.cmpi .sge n 1#32 = 1#1
instance (e n : BitVec 32) : Decidable (On e n) := inferInstanceAs (Decidable (_ ∧ _))

/-- What a row, a neighbor and a dimension contribute to the loss. -/
def entry (e n : BitVec 32) (el er rl rr : EReal) : EReal :=
  if On e n then Ideal.log (argRel rl rr) - Ideal.log (argInter el er rl rr) else 0

/-- The loss: the mean over rows and neighbors of the contributions. -/
def total (eb : Fin 4096 → Fin 2 → Fin 128 → EReal) (rb : Fin 4096 → Fin 50 → Fin 2 → Fin 128 → EReal) (ec : Fin 4096 → BitVec 32) (nc : Fin 4096 → Fin 50 → BitVec 32) : EReal :=
  Ideal.div (∑ b, ∑ k, ∑ d, entry (ec b) (nc b k) (eb b 0 d) (eb b 1 d) (rb b k 0 d) (rb b k 1 d)) (Ideal.ofBits .f32 0x48480000#32)

/-- A neighbor's contribution, the two choices made outside the sums over its dimensions. -/
theorem entry_sum (e n : BitVec 32) (el er rl rr : Fin 128 → EReal) :
    Scalar.select (IntOp.cmpi .sge e 1#32) (Scalar.select (IntOp.cmpi .sge n 1#32) (∑ d, Ideal.log (argRel (rl d) (rr d)) - ∑ d, Ideal.log (argInter (el d) (er d) (rl d) (rr d))) 0) 0
      = ∑ d, entry e n (el d) (er d) (rl d) (rr d) := by
  unfold Scalar.select entry On
  by_cases he : IntOp.cmpi .sge e 1#32 = 1#1
  · by_cases hn : IntOp.cmpi .sge n 1#32 = 1#1
    · simp only [he, hn, and_self, if_true]
      exact sum_sub_sum _ _ _ fun d => log_ne_bot (argInter_pos _ _ _ _)
    · simp [he, hn]
  · simp [he]

/-! ## A sum over rows, block by block -/

/-- A running sum is the sum of what was added. -/
theorem sum_of_steps {N : ℕ} (f : ℕ → EReal) (g : Fin N → EReal) (h0 : f 0 = 0) (hs : ∀ (n : ℕ) (h : n < N), f (n + 1) = f n + g ⟨n, h⟩) :
    ∀ (n : ℕ) (h : n ≤ N), f n = ∑ t : Fin n, g (t.castLE h)
  | 0, _ => h0
  | n + 1, h => by
    rw [hs n h, sum_of_steps f g h0 hs n (by omega), Fin.sum_univ_castSucc]; rfl

theorem sum_blocks {M : Type} [AddCommMonoid M] (p q : ℕ) (f : Fin (p * q) → M) :
    ∑ i, f i = ∑ a : Fin p, ∑ b : Fin q, f (finProdFinEquiv (a, b)) := by
  rw [← Fintype.sum_prod_type', ← finProdFinEquiv.sum_comp]

end Cert.Duck

end
-- ==== Proof.Value.Kernel.lean ====
/- The kernel's step, element by element. -/
module

public import proofs.«01_k».proof.Proof.KernelIdeal.Run
public import proofs.«01_k».proof.Proof.Value.Real
public import Idealize.ShloMosaic.Lib.Pointwise

@[expose] public section

noncomputable section

namespace Cert.KernelIdeal.Duck

open Cert.KernelIdeal Cert.KernelIdeal.Gen Idealize.ShloMosaic Cert.Duck

theorem named_perLog : Named.named (F := Ideal) κ "log2e" (φ := .f32) 0x3FB8AA3B#32 = ((perLog : ℝ) : EReal) := rfl
theorem named_gamma : Named.named (F := Ideal) κ "two_gamma_log2e" (φ := .f32) 0x3FD52EDA#32 = ((twoGamma * perLog : ℝ) : EReal) := rfl

theorem exp2_eq (x : EReal) : FloatOps.exp2 (F := Ideal) (φ := .f32) x = Ideal.exp2 x := rfl

set_option maxHeartbeats 4000000 in
/-- The softplus of the intersection's side. -/
theorem inter_at (x0 : Vec Ideal S128x2x128 .f32) (xr : Vec Ideal S1x128x50x256 .f32) (r : Fin 128) (k : Fin 50) (d : Fin 128) :
    k0_pay8 (k0_pay2 (row0 x0)) (k0_pay3 (row1 x0)) (k0_pay4 xr) (k0_pay5 xr) (ix3 r k d)
      = softplus (sideInter twoGamma (x0 (ix3 r 0 d)) (x0 (ix3 r 1 d)) (xr (ix4 0 r k ⟨d.val, by omega⟩)) (xr (ix4 0 r k ⟨128 + d.val, by omega⟩))) := by
  rw [← twoInter_eq]
  pointwise [k0_pay8, k0_pay2, k0_pay3, k0_pay4, k0_pay5, k0_pay6, k0_pay7, row0, row1, named_perLog, named_gamma, word_one, absf_eq, exp2_eq]
  rfl

set_option maxHeartbeats 4000000 in
/-- The softplus of the relation box's side. -/
theorem rel_at (xr : Vec Ideal S1x128x50x256 .f32) (r : Fin 128) (k : Fin 50) (d : Fin 128) :
    k0_pay9 (k0_pay4 xr) (k0_pay5 xr) (ix3 r k d) = softplus (sideRel twoGamma (xr (ix4 0 r k ⟨d.val, by omega⟩)) (xr (ix4 0 r k ⟨128 + d.val, by omega⟩))) := by
  rw [← twoRel_eq]
  pointwise [k0_pay9, k0_pay4, k0_pay5, k0_pay6, k0_pay7, named_perLog, named_gamma, word_one, absf_eq, exp2_eq]
  rfl

/-- The sum over the two outer axes. -/
theorem reduce_outer (v : S64x50x128.Idx → EReal) (d : Fin 128) :
    Ideal.reduceAdd reduces_S64x50x128_S128 v (ix1 d) = ∑ p : Fin 64, ∑ k : Fin 50, v (ix3 p k d) := by
  have e : ∀ i : S64x50x128.Idx, reduces_S64x50x128_S128.drop i = ix1 d ↔ ∃ q : Fin 64 × Fin 50, ix3 q.1 q.2 d = i := by
    intro i
    constructor
    · intro h
      refine ⟨(i 0, i 1), ?_⟩
      have h2 : (i 2).val = d.val := congrArg Fin.val (congrFun h 0)
      funext a
      match a with
      | ⟨0, _⟩ => rfl
      | ⟨1, _⟩ => rfl
      | ⟨2, _⟩ => exact Fin.ext h2.symm
    · rintro ⟨q, rfl⟩
      funext a
      match a with
      | ⟨0, _⟩ => rfl
  unfold Ideal.reduceAdd
  rw [Finset.sum_filter_eq_sum_of_fiber _ (fun q : Fin 64 × Fin 50 => (ix3 q.1 q.2 d : S64x50x128.Idx)) (fun _ _ h => Prod.ext (congrFun h 0) (congrFun h 1)) e v, Fintype.sum_prod_type]

/-- The mask, as a number above a half. -/
theorem mask_on (e n : BitVec 32) :
    Ideal.ofBits .f32 0x3F000000#32 < FloatOps.sitofp (F := Ideal) .f32 (BitVec.setWidth 32 (IntOp.andi (IntOp.cmpi .sge n 1#32) (IntOp.cmpi .sge e 1#32))) ↔ On e n := by
  have number : ∀ w : BitVec 32, FloatOps.sitofp (F := Ideal) .f32 w = ((w.toInt : ℝ) : EReal) := fun _ => rfl
  rw [word_half, number, EReal.coe_lt_coe_iff]
  unfold On
  have bit : ∀ b : BitVec 1, b = 0#1 ∨ b = 1#1 := by decide
  rcases bit (IntOp.cmpi .sge n 1#32) with hn | hn <;> rcases bit (IntOp.cmpi .sge e 1#32) with he | he <;> rw [hn, he]
  · rw [show (BitVec.setWidth 32 (IntOp.andi 0#1 0#1)).toInt = 0 by decide]; norm_num
  · rw [show (BitVec.setWidth 32 (IntOp.andi 0#1 1#1)).toInt = 0 by decide]; norm_num
  · rw [show (BitVec.setWidth 32 (IntOp.andi 1#1 0#1)).toInt = 0 by decide]; norm_num
  · rw [show (BitVec.setWidth 32 (IntOp.andi 1#1 1#1)).toInt = 1 by decide]; norm_num

set_option maxHeartbeats 4000000 in
/-- A step adds the block's contributions, row by row and neighbor by neighbor. -/
theorem step_at (x0 : Vec Ideal S128x2x128 .f32) (x1 : Vec Ideal S128x1 .i32) (x2 : Vec Ideal S128x50 .i32) (xr : Vec Ideal S1x128x50x256 .f32) (a : Vec Ideal S1x128 .f32) (d : Fin 128) :
    step x0 x1 x2 xr a (ix2 0 d) = a (ix2 0 d) + ∑ r : Fin 128, ∑ k : Fin 50,
      entry (x1 (ix2 r 0)) (x2 (ix2 r k)) (x0 (ix3 r 0 d)) (x0 (ix3 r 1 d)) (xr (ix4 0 r k ⟨d.val, by omega⟩)) (xr (ix4 0 r k ⟨128 + d.val, by omega⟩)) := by
  unfold step
  pointwise [k0_pay12, k0_pay10, word_one, reduce_outer, mask_on]
  refine congrArg (fun z => a (ix2 0 d) + z) ?_
  rw [sum_blocks 64 2]
  refine Finset.sum_congr rfl fun p _ => ?_
  rw [Fin.sum_univ_two, ← Finset.sum_add_distrib]
  refine Finset.sum_congr rfl fun k _ => ?_
  have r0 : (finProdFinEquiv (p, (0 : Fin 2)) : Fin 128) = ⟨p.val * 2, by omega⟩ := Fin.ext (by simp [finProdFinEquiv]; omega)
  have r1 : (finProdFinEquiv (p, (1 : Fin 2)) : Fin 128) = ⟨p.val * 2 + 1, by omega⟩ := Fin.ext (by simp [finProdFinEquiv]; omega)
  rw [r0, r1]
  simp only [inter_at, rel_at]
  have one : (0 : EReal) < 1 := zero_lt_one
  rw [log_pair (by split; exact argRel_pos _ _; exact one) (by split; exact argRel_pos _ _; exact one) (by split; exact argInter_pos _ _ _ _; exact one) (by split; exact argInter_pos _ _ _ _; exact one)]
  have key : ∀ (P : Prop) [Decidable P] (x y : EReal), Ideal.log (if P then x else 1) - Ideal.log (if P then y else 1) = if P then Ideal.log x - Ideal.log y else 0 := by
    intro P _ x y
    split
    · rfl
    · rw [log_one, sub_zero]
  rw [key, key]
  rfl

end Cert.KernelIdeal.Duck

end
-- ==== Proof.Value.Blocks.lean ====
/- The kernel's blocks of its operands, element by element. -/
module

public import proofs.«01_k».proof.Proof.KernelIdeal.Frame
public import proofs.«01_k».proof.Proof.Value.Kernel
public import Idealize.ShloMosaic.Lib.Pipeline.ValueKit
public import Idealize.ShloMosaic.Lib.Claim

@[expose] public section

noncomputable section

namespace Cert.KernelIdeal.Duck

open Cert.KernelIdeal Cert.KernelIdeal.Gen Idealize.ShloMosaic Idealize.ShloMosaic.TcCoe Cert.Duck

variable (m : (ℓ : Loc nD τ sig) → Buf (Elt Ideal) ℓ) (c : Dev nD)

theorem index_0 : ∀ t : Fin grid0.N, win0_0.index t = ![t.val, 0, 0] := by decide +kernel
theorem index_1 : ∀ t : Fin grid0.N, win0_1.index t = ![t.val, 0] := by decide +kernel
theorem index_2 : ∀ t : Fin grid0.N, win0_2.index t = ![t.val, 0] := by decide +kernel

/-- Row `r` of block `t`. -/
def rowAt (t : Fin 32) (r : Fin 128) : Fin 4096 := ⟨128 * t.val + r.val, by omega⟩

theorem eb_at (t : Fin cfg0.N) (t' : Fin 32) (h : t.val = t'.val) (r : Fin 128) (s : Fin 2) (d : Fin 128) :
    iblk m c 0 t (ix3 r s d) = m ((c : Thread nD τ).loc main_arg0) (ix3 (rowAt t' r) s d) := by
  unfold iblk
  rw [← V_main_arg0 m c]
  blk_simp
  blk_ext [index_0]
  show t.val * 128 + r.val = 128 * t'.val + r.val
  omega
theorem nc_at (t : Fin cfg0.N) (t' : Fin 32) (h : t.val = t'.val) (r : Fin 128) (k : Fin 50) :
    iblk m c 2 t (ix2 r k) = m ((c : Thread nD τ).loc main_arg3) (ix2 (rowAt t' r) k) := by
  unfold iblk
  rw [← V_main_arg3 m c]
  blk_simp
  blk_ext [index_2]
  show t.val * 128 + r.val = 128 * t'.val + r.val
  omega
theorem V_erc (b : Fin 4096) : V m c main_v0 (ix2 b 0) = m ((c : Thread nD τ).loc main_arg2) (ix1 b) := by
  have e : V m c main_v0 = shapeCast S4096x1 (m ((c : Thread nD τ).loc main_arg2) : Vec Ideal S4096 .i32) shapeCasts_S4096_S4096x1 := by
    show StableHlo.after hostOps0 _ _ = _
    unfold hostOps0
    after_results
    rfl
  rw [e]
  pointwise
theorem ec_at (t : Fin cfg0.N) (t' : Fin 32) (h : t.val = t'.val) (r : Fin 128) :
    iblk m c 1 t (ix2 r 0) = m ((c : Thread nD τ).loc main_arg2) (ix1 (rowAt t' r)) := by
  unfold iblk
  rw [← V_erc m c]
  blk_simp
  blk_ext [index_1]
  show t.val * 128 + r.val = 128 * t'.val + r.val
  omega
theorem boxes_eq (W : Held (F := Ideal) c relM) : boxes c W = shapeCast S4096x50x256 (W : Vec Ideal S4096x50x2x128 .f32) reshapes_S4096x50x2x128_S4096x50x256.1 := rfl
theorem left_at (t : Fin 32) (r : Fin 128) (k : Fin 50) (d : Fin 128) :
    blockX (F := Ideal) c (relW m c) t (ix4 0 r k ⟨d.val, by omega⟩) = m ((c : Thread nD τ).loc main_arg1) (ix4 (rowAt t r) k 0 d) := by
  show blockX c (V m c main_arg1) t _ = _
  rw [V_main_arg1 m c]
  unfold blockX
  rw [← ix3_eq_valueIdx, boxes_eq]
  pointwise
  refine congrArg _ (congrArg₂ (ix4 _ k) (Fin.ext ?_) (Fin.ext ?_))
  · show d.val / 128 = 0
    omega
  · show d.val % 128 = d.val
    omega
theorem right_at (t : Fin 32) (r : Fin 128) (k : Fin 50) (d : Fin 128) :
    blockX (F := Ideal) c (relW m c) t (ix4 0 r k ⟨128 + d.val, by omega⟩) = m ((c : Thread nD τ).loc main_arg1) (ix4 (rowAt t r) k 1 d) := by
  show blockX c (V m c main_arg1) t _ = _
  rw [V_main_arg1 m c]
  unfold blockX
  rw [← ix3_eq_valueIdx, boxes_eq]
  pointwise
  refine congrArg _ (congrArg (fun s => ix4 _ k s d) (Fin.ext ?_))
  show (128 + d.val) / 128 = 1
  omega
end Cert.KernelIdeal.Duck

end
-- ==== Proof.Value.Sum.lean ====
/- The accumulator after the last point, and the value stored from it. -/
module

public import proofs.«01_k».proof.Proof.Value.Blocks

@[expose] public section

noncomputable section

namespace Cert.KernelIdeal.Duck

open Cert.KernelIdeal Cert.KernelIdeal.Gen Idealize.ShloMosaic Idealize.ShloMosaic.TcCoe Cert.Duck

variable (m : (ℓ : Loc nD τ sig) → Buf (Elt Ideal) ℓ) (c : Dev nD)

/-- What row `b`, neighbor `k` and dimension `d` of the arguments contribute. -/
def part (b : Fin 4096) (k : Fin 50) (d : Fin 128) : EReal :=
  entry (m ((c : Thread nD τ).loc main_arg2) (ix1 b)) (m ((c : Thread nD τ).loc main_arg3) (ix2 b k))
    (m ((c : Thread nD τ).loc main_arg0) (ix3 b 0 d)) (m ((c : Thread nD τ).loc main_arg0) (ix3 b 1 d))
    (m ((c : Thread nD τ).loc main_arg1) (ix4 b k 0 d)) (m ((c : Thread nD τ).loc main_arg1) (ix4 b k 1 d))

theorem acc_step (n : ℕ) (h : n < 32) (d : Fin 128) :
    acc m c (n + 1) (ix2 0 d) = acc m c n (ix2 0 d) + ∑ r : Fin 128, ∑ k : Fin 50, part m c (rowAt ⟨n, h⟩ r) k d := by
  have hp : (pt n).val = (⟨n, h⟩ : Fin 32).val := Nat.mod_eq_of_lt h
  have hb : Ring.bk 32 n = ⟨n, h⟩ := Fin.ext (Nat.mod_eq_of_lt h)
  rw [acc, step_at, hb]
  refine congrArg (fun z => acc m c n (ix2 0 d) + z) (Finset.sum_congr rfl fun r _ => Finset.sum_congr rfl fun k _ => ?_)
  rw [ec_at m c _ _ hp, nc_at m c _ _ hp, eb_at m c _ _ hp, eb_at m c _ _ hp, left_at, right_at]
  rfl

theorem acc_zero (d : Fin 128) : acc m c 0 (ix2 0 d) = (0 : EReal) := by
  show k0_pay11 (F := Ideal) (ix2 0 d) = (0 : EReal)
  pointwise [k0_pay11]

theorem acc_last (d : Fin 128) : acc m c 32 (ix2 0 d) = ∑ t : Fin 32, ∑ r : Fin 128, ∑ k : Fin 50, part m c (rowAt t r) k d :=
  sum_of_steps (fun n => acc m c n (ix2 0 d)) (fun t : Fin 32 => ∑ r : Fin 128, ∑ k : Fin 50, part m c (rowAt t r) k d)
    (acc_zero m c d) (fun n h => acc_step m c n h d) 32 le_rfl

theorem mean_at (a : Vec Ideal S1x128 .f32) (i : S1x1.Idx) :
    k0_pay1 a i = Ideal.div (∑ d : Fin 128, a (ix2 0 d)) (Ideal.ofBits .f32 0x48480000#32) := by
  pointwise [k0_pay1]
  exact congrArg (fun z => Ideal.div z _) (Fin.sum_univ_one _)

/-- The value stored at the last point is the mean of the contributions. -/
theorem value (i : S1x1.Idx) : k0_pay1 (acc m c 32) i
    = total (fun b s d => m ((c : Thread nD τ).loc main_arg0) (ix3 b s d)) (fun b k s d => m ((c : Thread nD τ).loc main_arg1) (ix4 b k s d))
        (fun b => m ((c : Thread nD τ).loc main_arg2) (ix1 b)) (fun b k => m ((c : Thread nD τ).loc main_arg3) (ix2 b k)) := by
  rw [mean_at]
  unfold total
  refine congrArg (fun z => Ideal.div z _) ?_
  rw [Finset.sum_congr rfl fun d _ => acc_last m c d]
  have rows := sum_blocks 32 128 fun b : Fin 4096 => ∑ k : Fin 50, ∑ d : Fin 128, part m c b k d
  refine Eq.trans ?_ rows.symm
  rw [Finset.sum_comm]
  refine Finset.sum_congr rfl fun t _ => ?_
  rw [Finset.sum_comm]
  refine Finset.sum_congr rfl fun r _ => ?_
  rw [Finset.sum_comm]
  have e : (finProdFinEquiv (t, r) : Fin 4096) = rowAt t r := Fin.ext (by simp [finProdFinEquiv, rowAt]; omega)
  rw [e]

end Cert.KernelIdeal.Duck

end
-- ==== Proof.Value.Reference.lean ====
/- The reference's result, element by element. -/
module

public import proofs.«01_k».proof.Proof.Gen.ReferenceIdeal.Run
public import proofs.«01_k».proof.Proof.Value.Real
public import Idealize.ShloMosaic.Lib.Pointwise

@[expose] public section

noncomputable section

namespace Cert.ReferenceIdeal.Duck

open Cert.ReferenceIdeal Cert.ReferenceIdeal.Gen Idealize.ShloMosaic Idealize.ShloMosaic.TcCoe Idealize.SL.Sem Idealize.ShloMosaic.ValueIdx

theorem zero_at : (id (constant (F := Ideal) S_ FTy.f32 0#32) Idealize.ShloMosaic.ix0) = (0 : EReal) := by
  show Ideal.ofBits .f32 0#32 = 0
  simp [Ideal.ofBits, Ideal.ieee]

set_option maxHeartbeats 4000000 in
/-- The reference's result is the mean of the contributions. -/
theorem result (m : (ℓ : Loc nD τ sig) → Buf (Elt Ideal) ℓ) (c : Dev nD) (j : S_.Idx) : Value.res_main_v85 (F := Ideal) m c j
    = Cert.Duck.total (fun b s d => m (c.tc.loc main_arg0) (Idealize.ShloMosaic.ix3 b s d)) (fun b k s d => m (c.tc.loc main_arg1) (Idealize.ShloMosaic.ix4 b k s d))
        (fun b => m (c.tc.loc main_arg2) (Idealize.ShloMosaic.ix1 b)) (fun b k => m (c.tc.loc main_arg3) (Idealize.ShloMosaic.ix2 b k)) := by
  unfold Value.res_main_v85
  pointwise [Cert.Duck.div_one, Cert.Duck.word_gamma, Cert.Duck.word_neg_one, Cert.Duck.absf_eq, ne_eq, not_true_eq_false, if_false, Cert.Duck.softplus_def, Cert.Duck.logAddExp_def]
  unfold Cert.Duck.total
  refine congrArg (fun x => Ideal.div x _) (Finset.sum_congr rfl fun b _ => Finset.sum_congr rfl fun k _ => ?_)
  rw [← Cert.Duck.entry_sum, zero_at]
  rfl

end Cert.ReferenceIdeal.Duck

end
-- ==== Proof.Value.Algebraic.lean ====
/- The kernel and the reference end with the same value. -/
module

public import proofs.«01_k».proof.Defs
public import proofs.«01_k».proof.Proof.Gen.KernelIdeal
public import proofs.«01_k».proof.Proof.Gen.ReferenceIdeal
public import proofs.«01_k».proof.Proof.Value.Sum
public import proofs.«01_k».proof.Proof.Value.Reference

@[expose] public section

noncomputable section

namespace Cert.KernelIdeal.Duck

open Cert.KernelIdeal Cert.KernelIdeal.Gen Idealize.ShloMosaic Idealize.ShloMosaic.TcCoe Idealize.SL.Sem Cert.Duck
open Idealize.ShloMosaic.Pipeline (Dat)

variable (m : (ℓ : Loc nD τ sig) → Buf (Elt Ideal) ℓ) (ρ : Dev nD → PrngReg)

/-- The loss of the arguments. -/
def loss (c : Dev nD) : EReal :=
  total (fun b s d => m ((c : Thread nD τ).loc main_arg0) (ix3 b s d)) (fun b k s d => m ((c : Thread nD τ).loc main_arg1) (ix4 b k s d))
    (fun b => m ((c : Thread nD τ).loc main_arg2) (ix1 b)) (fun b k => m ((c : Thread nD τ).loc main_arg3) (ix2 b k))

def lastPt : Fin cfg0.N := pt 31
theorem whole_last : (cfg0.win 3).WholeAt lastPt := by decide +kernel

/-- The region's result array ends holding the loss. -/
theorem final (c : Dev nD) : (dats m 0 c).arrAt 3 cfg0.N = (fun _ => loss m c : Buf (Elt Ideal) ((c : Thread nD τ).loc main_v1)) := by
  refine (dats m 0 c).arrAt_eq_of_after_last 3 lastPt whole_last _ fun j => ?_
  rw [after_3]
  exact value m c fun a => ⟨(j a).val, whole_last.lt_size j a⟩

/-- And so does the program's. -/
theorem tail_value (c : Dev nD) : Pipeline.afterTail₀ cfgs (dats m) 0 (V0 m) [hostOps1] c main_v2 = fun _ => loss m c := by
  have hv : Pipeline.withArrays (cfgs 0).spec c (V0 m c) (fun w => (dats m 0 c).arrAt w (cfgs 0).N) (Proc.devRef .tc main_v1) = (fun _ => loss m c : Buf (Elt Ideal) ((c : Thread nD τ).loc main_v1)) :=
    (Pipeline.withArrays_arr (cfgs 0).spec (by decide) c (V0 m c) (fun w => (dats m 0 c).arrAt w (cfgs 0).N) 3).trans (final m c)
  unfold Pipeline.afterTail₀
  show StableHlo.after hostOps1 _ _ = _
  unfold hostOps1
  after_results
  rw [hv]
  rfl

theorem run_loss : θ_run defs (onTc (τ := τ) (main (F := Ideal))) ⟨m, fun _ => 0, ρ⟩ (fun r => ∀ c : Dev nD,
    r.2.mem ((c.tc : Thread nD τ).loc main_v2) = (fun _ => loss m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).2 main_v2 (Pipeline.mem_restRefs_of main_v2 (by decide) (by decide))).trans (tail_value m c), h.2 c⟩)
    (θ_run_and (run_post m ρ) (args_kept m ρ (dats m) (A_eq m) (run_post m ρ)))

end Cert.KernelIdeal.Duck

namespace Cert.Proof

open Idealize.ShloMosaic Idealize.SL.Sem

/-- Both programs end with the loss of the arguments. -/
theorem algebraic : Cert.algebraic_KernelIdeal_ReferenceIdeal := fun m g m' g' _ hagree =>
  ⟨fun c _ => Cert.KernelIdeal.Duck.loss m c, Cert.KernelIdeal.Duck.run_loss m g,
    (θ_run Cert.ReferenceIdeal.defs _ _).mono (fun r h c => ⟨(h c).1.trans (funext fun j => by
      rw [Cert.ReferenceIdeal.Duck.result m' c j, (hagree c).1, (hagree c).2.1, (hagree c).2.2.1, (hagree c).2.2.2]; rfl), (h c).2⟩)
      (Cert.ReferenceIdeal.Value.run (F := Ideal) m' g')⟩

end Cert.Proof

end
-- ==== Proof.lean ====
/- The proof of the claims (proofs.«01_k».proof.Defs). -/
module

public import proofs.«01_k».proof.Defs
public import proofs.«01_k».proof.Proof.Frames
public import proofs.«01_k».proof.Proof.Value.Algebraic

@[expose] public section

noncomputable section

namespace Cert.Proof

theorem claim : Cert.Claim :=
  ⟨Cert.Kernel.Gen.facts, Cert.KernelIdeal.Gen.facts, Cert.ReferenceIdeal.Gen.facts,
    quiescent_kernel, quiescent_kernelIdeal, quiescent_referenceIdeal, preserves, algebraic⟩

end Cert.Proof

end
